-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 16384]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![4096, 2048]⟩ ⟨2, ![16384, 2048]⟩ 0 4 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x2048 : Shape := ⟨2, ![2048, 2048]⟩
abbrev S2048x4096 : Shape := ⟨2, ![2048, 4096]⟩
abbrev S4096x2048 : Shape := ⟨2, ![4096, 2048]⟩
abbrev S2x256x2048 : Shape := ⟨3, ![2, 256, 2048]⟩
abbrev S2x3x256x2048 : Shape := ⟨4, ![2, 3, 256, 2048]⟩
abbrev S2 : Shape := ⟨1, ![2]⟩
abbrev S2x4 : Shape := ⟨2, ![2, 4]⟩
abbrev S2x3 : Shape := ⟨2, ![2, 3]⟩
abbrev S_ : Shape := ⟨0, ![]⟩
abbrev S1 : Shape := ⟨1, ![1]⟩
abbrev S1x256x2048 : Shape := ⟨3, ![1, 256, 2048]⟩
abbrev S256x2048 : Shape := ⟨2, ![256, 2048]⟩
abbrev S256x4096 : Shape := ⟨2, ![256, 4096]⟩
abbrev S1x1 : Shape := ⟨2, ![1, 1]⟩
abbrev S1x1x256x2048 : Shape := ⟨4, ![1, 1, 256, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x4096, .bf16⟩
  | .hbm, ⟨2, _⟩ => ⟨S4096x2048, .bf16⟩
  | .hbm, ⟨3, _⟩ => ⟨S2048x2048, .bf16⟩
  | .local _ .vmem, ⟨0, _⟩ => ⟨S2048x4096, .bf16⟩
  | .local _ .vmem, ⟨1, _⟩ => ⟨S4096x2048, .bf16⟩
  | .local _ .vmem, ⟨2, _⟩ => ⟨S2x256x2048, .f32⟩
  | .local _ .vmem, ⟨3, _⟩ => ⟨S2x256x2048, .bf16⟩
  | .local _ .vmem, ⟨4, _⟩ => ⟨S2x3x256x2048, .bf16⟩
  | .local _ .vmem, ⟨5, _⟩ => ⟨S2x3x256x2048, .bf16⟩
  | .local _ .vmem, ⟨6, _⟩ => ⟨S2x3x256x2048, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) (c0_i32_10 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v13 : BitVec 32 := Scalar.muli v2 c512_i32
  let v14 : BitVec 32 := Scalar.addi v13 c0_i32_10
  let c0_i32_15 : BitVec 32 := 0#32
  ![v14.toNat, 0]
def k0_dev3 (d0 : Dev nD) : Nat :=
  let c0_i32_46 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_45 : BitVec 32 := 1#32
  let v48 : BitVec 32 := Scalar.muli v7 c1_i32_45
  let v49 : BitVec 32 := Scalar.addi c0_i32_46 v48
  v49.toNat
def k0_dev4 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_75 : BitVec 32 := 1#32
  let v79 : BitVec 32 := Scalar.muli v5 c1_i32_75
  let v80 : BitVec 32 := Scalar.addi c0_i32_76 v79
  v80.toNat
def k0_off2 (d0 : Dev nD) (c7_i32 : BitVec 32) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v89 : BitVec 32 := Scalar.addi v2 c7_i32
  let c4_i32_81 : BitVec 32 := 4#32
  let v90 : BitVec 32 := Scalar.remsi v89 c4_i32_81
  let c512_i32_85 : BitVec 32 := 512#32
  let v94 : BitVec 32 := Scalar.muli v90 c512_i32_85
  let v95 : BitVec 32 := Scalar.addi v94 c0_i32_86
  let c0_i32_91 : BitVec 32 := 0#32
  ![v95.toNat, 0]
def k0_off2_at (r : Fin 7) : BitVec 32 × BitVec 32 :=
  if r.val < 3 then
    if r.val < 1 then
      (7#32, 0#32)
    else
      if r.val < 2 then
        (6#32, 0#32)
      else
        (5#32, 0#32)
  else
    if r.val < 5 then
      if r.val < 4 then
        (1#32, 0#32)
      else
        (0#32, 256#32)
    else
      if r.val < 6 then
        (1#32, 256#32)
      else
        (2#32, 256#32)
def k0_off3 (d0 : Dev nD) (c0_i32_82 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v91 : BitVec 32 := Scalar.addi v2 c0_i32_82
  let c1_i32_83 : BitVec 32 := 1#32
  let v92 : BitVec 32 := Scalar.addi v91 c1_i32_83
  let c4_i32_84 : BitVec 32 := 4#32
  let v93 : BitVec 32 := Scalar.remsi v92 c4_i32_84
  let c512_i32_92 : BitVec 32 := 512#32
  let v101 : BitVec 32 := Scalar.muli v93 c512_i32_92
  let c256_i32_93 : BitVec 32 := 256#32
  let v102 : BitVec 32 := Scalar.addi v101 c256_i32_93
  let c0_i32_98 : BitVec 32 := 0#32
  ![v102.toNat, 0]
def k0_dev5 (d0 : Dev nD) : Nat :=
  let c0_i32_204 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_203 : BitVec 32 := 1#32
  let v186 : BitVec 32 := Scalar.muli v7 c1_i32_203
  let v187 : BitVec 32 := Scalar.addi c0_i32_204 v186
  v187.toNat
def k0_dev6 (d0 : Dev nD) : Nat :=
  let c0_i32_218 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_217 : BitVec 32 := 1#32
  let v196 : BitVec 32 := Scalar.muli v5 c1_i32_217
  let v197 : BitVec 32 := Scalar.addi c0_i32_218 v196
  v197.toNat
def k0_dev7 (d0 : Dev nD) : Nat :=
  let c0_i32_350 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_349 : BitVec 32 := 1#32
  let v303 : BitVec 32 := Scalar.muli v7 c1_i32_349
  let v304 : BitVec 32 := Scalar.addi c0_i32_350 v303
  v304.toNat
def k0_dev8 (d0 : Dev nD) : Nat :=
  let c0_i32_364 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_363 : BitVec 32 := 1#32
  let v313 : BitVec 32 := Scalar.muli v5 c1_i32_363
  let v314 : BitVec 32 := Scalar.addi c0_i32_364 v313
  v314.toNat
def k0_off4 (d0 : Dev nD) (c1_i32_1 : BitVec 32) (c256_i32_498 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let v4 : BitVec 32 := Scalar.subi v3 c1_i32_1
  let c4_i32_2 : BitVec 32 := 4#32
  let v5 : BitVec 32 := Scalar.remsi v4 c4_i32_2
  let c512_i32_497 : BitVec 32 := 512#32
  let v429 : BitVec 32 := Scalar.muli v5 c512_i32_497
  let v430 : BitVec 32 := Scalar.addi v429 c256_i32_498
  let c0_i32_503 : BitVec 32 := 0#32
  ![v430.toNat, 0]
def k0_off4_at (r : Fin 4) : BitVec 32 × BitVec 32 :=
  if r.val < 2 then
    if r.val < 1 then
      (1#32, 256#32)
    else
      (0#32, 0#32)
  else
    if r.val < 3 then
      (1#32, 0#32)
    else
      (2#32, 0#32)
def k0_dev9 (d0 : Dev nD) : Nat :=
  let c0_i32_515 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_514 : BitVec 32 := 1#32
  let v436 : BitVec 32 := Scalar.muli v7 c1_i32_514
  let v437 : BitVec 32 := Scalar.addi c0_i32_515 v436
  v437.toNat
def k0_dev10 (d0 : Dev nD) : Nat :=
  let c0_i32_529 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_528 : BitVec 32 := 1#32
  let v446 : BitVec 32 := Scalar.muli v5 c1_i32_528
  let v447 : BitVec 32 := Scalar.addi c0_i32_529 v446
  v447.toNat
def k0_dev11 (d0 : Dev nD) : Nat :=
  let c0_i32_620 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_619 : BitVec 32 := 1#32
  let v503 : BitVec 32 := Scalar.muli v7 c1_i32_619
  let v504 : BitVec 32 := Scalar.addi c0_i32_620 v503
  v504.toNat
def k0_dev12 (d0 : Dev nD) : Nat :=
  let c0_i32_634 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_633 : BitVec 32 := 1#32
  let v513 : BitVec 32 := Scalar.muli v5 c1_i32_633
  let v514 : BitVec 32 := Scalar.addi c0_i32_634 v513
  v514.toNat
def k0_dev13 (d0 : Dev nD) : Nat :=
  let c0_i32_725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_724 : BitVec 32 := 1#32
  let v570 : BitVec 32 := Scalar.muli v7 c1_i32_724
  let v571 : BitVec 32 := Scalar.addi c0_i32_725 v570
  v571.toNat
def k0_dev14 (d0 : Dev nD) : Nat :=
  let c0_i32_739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_738 : BitVec 32 := 1#32
  let v580 : BitVec 32 := Scalar.muli v5 c1_i32_738
  let v581 : BitVec 32 := Scalar.addi c0_i32_739 v580
  v581.toNat
abbrev stage0_0 : Fin 1 → Memref sig .tc .vmem S2048x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x2048 : Shape := ⟨2, ![2048, 2048]⟩
abbrev S2048x16384 : Shape := ⟨2, ![2048, 16384]⟩
abbrev S16384x2048 : Shape := ⟨2, ![16384, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x16384, .bf16⟩
  | .hbm, ⟨2, _⟩ => ⟨S16384x2048, .bf16⟩
  | .hbm, ⟨3, _⟩ => ⟨S2048x16384, .f32⟩
  | .hbm, ⟨4, _⟩ => ⟨S2048x16384, .f32⟩
  | .hbm, ⟨5, _⟩ => ⟨S_, .f32⟩
  | .hbm, ⟨6, _⟩ => ⟨S2048x16384, .f32⟩
  | .hbm, ⟨7, _⟩ => ⟨S2048x16384, .f32⟩
  | .hbm, ⟨8, _⟩ => ⟨S16384x2048, .f32⟩
  | .hbm, ⟨9, _⟩ => ⟨S2048x2048, .f32⟩
  | .hbm, ⟨10, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proof.Common.lean ====
/-
# The two-way ring of `01_k`: its cells, its contents and its schedule

Four devices stand in a ring. Every device owns 512 of the 2048 rows of the result, cut in two halves of 256 rows; the upper
halves travel one way around the ring (direction `0`, to the next device), the lower halves the other way (direction `1`).
A HOP is a direction and one of six steps: three of the reduce-scatter, three of the all-gather. Hop `(d, s)` copies a block of
256 rows out of the sender's source slot into the landing slot of its neighbour, and each hop has its own send cell, its own
receive cell and its own landing slot on every device, so each cell completes exactly one round.

This module names the slots and the cells, gives the contents every hop carries as functions of the memory at launch, and states
the schedule the launch allocates: a device's barrier cell has one duty per direction, a send or receive cell one duty.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.Value
public import Idealize.ShloMosaic.Lib.MemrefSat
public import Idealize.ShloMosaic.Lib.Tactic

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The algebra -/

/-- The rounds of the ring's own cells, -/
abbrev UB : Type := URounds (GSem nD τ sig) (Fin 2)
/-- beside those of the staging cells and the counters of the copies inside one device. -/
abbrev UU : Type := UR sig nD τ × (UB × Counters)

local notation "𝕄" => MT nD τ sig Unit (Elt F) ℕ UU ℕ

/-- Where the rounds of the staging cells sit in the ghost state. -/
abbrev EP : Emb (UR sig nD τ) (MT nD τ sig Unit (Elt F) ℕ UU ℕ) := embL
/-- Where the rounds of the ring's own cells sit in the ghost state. -/
def ER : Emb UB (MT nD τ sig Unit (Elt F) ℕ UU ℕ) := (Emb.inl : Emb UB (UB × Counters)).trans embR
/-- The ring's rounds sit in the part of the ghost state that can be updated. -/
instance ER_landsIn : (ER : Emb UB 𝕄).LandsIn (upEmb : UEmb _ 𝕄) := by unfold ER; infer_instance

/-- The kernel has no loop that needs a variant. -/
abbrev 𝒱₀ : Variants := Variants.none

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## The ring -/

set_option backward.proofsInPublic true in
/-- The next device. -/
def nxt (c : Dev nD) : Dev nD := ⟨(c.val + 1) % 4, Nat.mod_lt _ (by decide)⟩
set_option backward.proofsInPublic true in
/-- The device before. -/
def prv (c : Dev nD) : Dev nD := ⟨(c.val + 3) % 4, Nat.mod_lt _ (by decide)⟩

/-- The device a hop of direction `d` goes to, -/
def dn : Fin 2 → Dev nD → Dev nD
  | 0, c => nxt c
  | 1, c => prv c
/-- and the one it comes from. -/
def up : Fin 2 → Dev nD → Dev nD
  | 0, c => prv c
  | 1, c => nxt c

/-- Going down the ring and then up again returns to the same device. -/
theorem up_dn (d : Fin 2) (c : Dev nD) : up d (dn d c) = c := by revert d c; decide
/-- Going up the ring and then down again returns to the same device. -/
theorem dn_up (d : Fin 2) (c : Dev nD) : dn d (up d c) = c := by revert d c; decide

/-- Going one step in direction `d`, as a bijection of the devices. -/
def ring (d : Fin 2) : Dev nD ≃ Dev nD := ⟨dn d, up d, up_dn d, dn_up d⟩

/-! ## The hops and their semaphores -/

/-- A hop: its direction and its step. -/
abbrev Hop : Type := Fin 2 × Fin 6

set_option backward.proofsInPublic true in
/-- The semaphore that counts the hop's departure, on the sender; -/
def sndS (h : Hop) : DmaSem sig :=
  ⟨if h.2.val < 3 then 12 + 3 * h.1.val + h.2.val else 24 + 3 * h.1.val + (h.2.val - 3), by revert h; decide⟩
set_option backward.proofsInPublic true in
/-- its arrival, on the receiver; -/
def rcvS (h : Hop) : DmaSem sig :=
  ⟨if h.2.val < 3 then 18 + 3 * h.1.val + h.2.val else 30 + 3 * h.1.val + (h.2.val - 3), by revert h; decide⟩
set_option backward.proofsInPublic true in
/-- that of a copy of rows of `x` into half `d` of its landing buffer; -/
def xS (d : Fin 2) : DmaSem sig := ⟨2 + d.val, by revert d; decide⟩
set_option backward.proofsInPublic true in
/-- that of the `j`-th copy of direction `d` into the result; -/
def outS (d : Fin 2) (j : Fin 4) : DmaSem sig := ⟨4 + 4 * d.val + j.val, by revert d j; decide⟩
/-- and the barrier, which outlives the kernel. -/
abbrev barS : Sem sig := (SemArray.scalar (sig.barrier 0 rfl) : Sems sig S_).sem

/-- The semaphores under the schedule: the barrier, the send cells, the receive cells. -/
abbrev Cell : Type := Unit ⊕ (Hop ⊕ Hop)
/-- The semaphore of each. -/
def csem : Cell → SemLoc sig
  | .inl _ => .reg barS
  | .inr (.inl h) => .dma (sndS h)
  | .inr (.inr h) => .dma (rcvS h)
/-- The barrier cell of device `c`. -/
abbrev barCell (c : Dev nD) : GSem nD τ sig := ((c : Thread nD τ), .reg barS)
/-- The send cell of hop `h` on device `c`. -/
abbrev sndCell (c : Dev nD) (h : Hop) : GSem nD τ sig := ((c : Thread nD τ), .dma (sndS h))
/-- The receive cell of hop `h` on device `c`. -/
abbrev rcvCell (c : Dev nD) (h : Hop) : GSem nD τ sig := ((c : Thread nD τ), .dma (rcvS h))
/-- A cell of the schedule on a device. -/
def kcell (x : Dev nD × Cell) : GSem nD τ sig := ((x.1 : Thread nD τ), csem x.2)

set_option backward.proofsInPublic true in
/-- Which cell of the schedule a semaphore is, read off its number. -/
def cellAt : SemLoc sig → Option Cell
  | .reg _ => some (.inl ())
  | .dma n =>
    if n.val < 12 then none
    else
      let k : ℕ := (n.val - 12) % 6
      let b : ℕ := (n.val - 12) / 6
      let h : Hop := (⟨k / 3 % 2, Nat.mod_lt _ (by decide)⟩, ⟨(k % 3 + 3 * (b / 2)) % 6, Nat.mod_lt _ (by decide)⟩)
      if b % 2 = 0 then some (.inr (.inl h)) else some (.inr (.inr h))

/-- The semaphore of a cell of the schedule is read back as that cell. -/
theorem cellAt_csem : ∀ j : Cell, cellAt (csem j) = some j := by decide
/-- The barrier semaphore is read as the barrier cell. -/
theorem cellAt_bar : cellAt (.reg barS) = some (.inl ()) := rfl
/-- The send semaphore of a hop is read as that hop's send cell. -/
theorem cellAt_snd (h : Hop) : cellAt (.dma (sndS h)) = some (.inr (.inl h)) := cellAt_csem (.inr (.inl h))
/-- The receive semaphore of a hop is read as that hop's receive cell. -/
theorem cellAt_rcv (h : Hop) : cellAt (.dma (rcvS h)) = some (.inr (.inr h)) := cellAt_csem (.inr (.inr h))
/-- The semaphore of a copy of rows of `x` is no cell of the schedule. -/
theorem cellAt_x (d : Fin 2) : cellAt (.dma (xS d)) = none := by revert d; decide
/-- The semaphore of a copy into the result is no cell of the schedule. -/
theorem cellAt_out (d : Fin 2) (j : Fin 4) : cellAt (.dma (outS d j)) = none := by revert d j; decide

/-! ## The slots -/

/-- A block of 256 rows. -/
abbrev Blk (F : FTy → Type) : Type := FVec F S256x2048 .bf16
/-- A block of 256 rows in `f32`. -/
abbrev BlkF (F : FTy → Type) : Type := FVec F S256x2048 .f32
/-- A memref of such a block in the device's own memory. -/
abbrev Slot : Type := Memref sig .tc .vmem S256x2048 .bf16

/-- Every slot lies inside a six-slot buffer. -/
theorem inb4 (d : Fin 2) (k : Fin 3) : ∀ a, (![d.val, k.val, 0, 0] : Fin 4 → ℕ) a + S1x1x256x2048.size a ≤ S2x3x256x2048.size a := by
  revert d k; decide
/-- Every half lies inside a two-slot buffer. -/
theorem inb3 (d : Fin 2) : ∀ a, (![d.val, 0, 0] : Fin 3 → ℕ) a + S1x256x2048.size a ≤ S2x256x2048.size a := by
  revert d; decide
/-- Every half of every row chunk lies inside a 2048 by 2048 array. -/
theorem inb2 (k : Fin 4) (d : Fin 2) : ∀ a, (![512 * k.val + 256 * d.val, 0] : Fin 2 → ℕ) a + S256x2048.size a ≤ S2048x2048.size a := by
  revert d k; decide

/-- The rectangle of slot `(d, k)` of a six-slot buffer. -/
abbrev r4 (d : Fin 2) (k : Fin 3) : Rect S2x3x256x2048 := Rect.unit (s := S2x3x256x2048) ![d.val, k.val, 0, 0] S1x1x256x2048.size (inb4 d k)
/-- The rectangle of half `d` of a two-slot buffer. -/
abbrev r3 (d : Fin 2) : Rect S2x256x2048 := Rect.unit (s := S2x256x2048) ![d.val, 0, 0] S1x256x2048.size (inb3 d)
/-- The rectangle of half `d` of row chunk `k` of a 2048 by 2048 array. -/
abbrev r2 (k : Fin 4) (d : Fin 2) : Rect S2048x2048 := Rect.unit (s := S2048x2048) ![512 * k.val + 256 * d.val, 0] S256x2048.size (inb2 k d)

/-- The buffer rows of `x` are copied into. -/
abbrev xB : Memref sig .tc .vmem S2x256x2048 .f32 := Memref.whole cc0_scratch0
/-- The buffer of the blocks the first hops send. -/
abbrev seedB : Memref sig .tc .vmem S2x256x2048 .bf16 := Memref.whole cc0_scratch1
/-- The buffer of the blocks the later hops of the reduce-scatter send, and of the summed block. -/
abbrev stageB : Memref sig .tc .vmem S2x3x256x2048 .bf16 := Memref.whole cc0_scratch2
/-- The landing buffer of the reduce-scatter. -/
abbrev rsB : Memref sig .tc .vmem S2x3x256x2048 .bf16 := Memref.whole cc0_scratch3
/-- The landing buffer of the all-gather. -/
abbrev agB : Memref sig .tc .vmem S2x3x256x2048 .bf16 := Memref.whole cc0_scratch4

/-- Slot `(d, k)` of a buffer of six. -/
abbrev slot (B : Memref sig .tc .vmem S2x3x256x2048 .bf16) (d : Fin 2) (k : Fin 3) : Slot :=
  (B.slice (r4 d k) (fun _ => rfl)).squeeze S256x2048 squeezes_S1x1x256x2048_S256x2048
/-- Slot `d` of the seed buffer, -/
abbrev seedM (d : Fin 2) : Slot := (seedB.slice (r3 d) (fun _ => rfl)).squeeze S256x2048 squeezes_S1x256x2048_S256x2048
/-- and of the landing buffer of `x`. -/
abbrev xM (d : Fin 2) : Memref sig .tc .vmem S256x2048 .f32 := (xB.slice (r3 d) (fun _ => rfl)).squeeze S256x2048 squeezes_S1x256x2048_S256x2048

/-- Half `d` of row chunk `k` of `x` in main memory, -/
abbrev xRows (k : Fin 4) (d : Fin 2) : Memref sig .tc .hbm S256x2048 .f32 := (Memref.whole main_arg0).slice (r2 k d) (fun _ => rfl)
/-- and of the result. -/
abbrev outRows (k : Fin 4) (d : Fin 2) : Memref sig .tc .hbm S256x2048 .bf16 := (Memref.whole main_v1).slice (r2 k d) (fun _ => rfl)

/-- Where a hop lands, on the receiver; -/
def landM : Hop → Slot
  | (d, 0) => slot rsB d 0
  | (d, 1) => slot rsB d 1
  | (d, 2) => slot rsB d 2
  | (d, 3) => slot agB d 0
  | (d, 4) => slot agB d 1
  | (d, 5) => slot agB d 2
/-- what it copies, on the sender. -/
def srcM : Hop → Slot
  | (d, 0) => seedM d
  | (d, 1) => slot stageB d 0
  | (d, 2) => slot stageB d 1
  | (d, 3) => slot stageB d 2
  | (d, 4) => slot agB d 0
  | (d, 5) => slot agB d 1

/-- The share of the source a hop borrows: all of it in the reduce-scatter, half in the all-gather, where a copy into the result
    reads the same slot at the same time. -/
def qs : Fin 6 → PosShare TreeShare
  | 0 => fullShare | 1 => fullShare | 2 => fullShare
  | 3 => fullShare.left | 4 => fullShare.left | 5 => fullShare.left

/-- The credit of a block. -/
def N : ℕ := (slot rsB 0 0).view.dmaCredit
/-- The credit of a block is positive. -/
theorem N_pos : 0 < N := View.dmaCredit_pos _ (by decide)
/-- Every landing slot takes the credit of a block. -/
theorem land_credit (h : Hop) : (landM h).view.dmaCredit = N := by
  obtain ⟨d, s⟩ := h; fin_cases s <;> rfl
/-- Every source slot takes the credit of a block. -/
theorem src_credit (h : Hop) : (srcM h).view.dmaCredit = N := by
  obtain ⟨d, s⟩ := h; fin_cases s <;> rfl

/-! ## The contents -/

/-- Half `d` of row chunk `k` of the `x` that device `c` was given, -/
def Xb (c : Dev nD) (k : Fin 4) (d : Fin 2) : BlkF F := (xRows k d).view.read (Elt F) (m ((c : Thread nD τ).loc main_arg0))
/-- its columns of the first weight, as staged; -/
def Wa (c : Dev nD) : (cc0_stg0_0 : Ref sig .tc).ty.Contents (Elt F) :=
  (win0_0.blk (0 : Fin 1)).view.read (Elt F) (m ((c : Thread nD τ).loc main_arg1))
/-- its rows of the second. -/
def Wb (c : Dev nD) : (cc0_stg1_0 : Ref sig .tc).ty.Contents (Elt F) :=
  (win0_1.blk (0 : Fin 1)).view.read (Elt F) (m ((c : Thread nD τ).loc main_arg2))

/-- A block of rows through the two layers: the partial product a device computes. -/
def mlp (X : BlkF F) (A : FVec F S2048x4096 .bf16) (B : FVec F S4096x2048 .bf16) : BlkF F :=
  matmul dot_S256x4096_S4096x2048_S256x2048_1_0_0_1_n_n none
    (truncf .bf16
      (maximumf
        (matmul dot_S256x2048_S2048x4096_S256x4096_1_0_0_1_n_n none (truncf .bf16 X bitsLt_bf16_f32)
          (shapeCast S2048x4096 A shapeCasts_S2048x4096_S2048x4096) (constant S256x4096 .f32 0x00000000#32))
        (broadcast S256x4096 (Scalar.ofBits .f32 0x00000000#32)))
      bitsLt_bf16_f32)
    (shapeCast S4096x2048 B shapeCasts_S4096x2048_S4096x2048) (constant S256x2048 .f32 0x00000000#32)

/-- Device `c`'s partial product of half `d` of row chunk `k`. -/
def part (c : Dev nD) (k : Fin 4) (d : Fin 2) : BlkF F := mlp (Xb m c k d) (Wa m c) (Wb m c)

/-- A block received, plus a partial product. -/
def acc (T : Blk F) (p : BlkF F) : Blk F := truncf .bf16 (addf (extf .f32 T bitsLt_bf16_f32) p) bitsLt_bf16_f32

set_option backward.proofsInPublic true in
/-- The row chunk device `c` adds to at the end of reduce-scatter step `s`. -/
def chunk (d : Fin 2) (s : ℕ) (c : Dev nD) : Fin 4 :=
  match d with
  | 0 => ⟨(c.val + 11 - s) % 4, Nat.mod_lt _ (by decide)⟩
  | 1 => ⟨(c.val + s + 1) % 4, Nat.mod_lt _ (by decide)⟩

/-- What device `c` sends at reduce-scatter step `s` in direction `d`; at `s = 3`, the block it has summed over the four devices. -/
def red (d : Fin 2) : ℕ → Dev nD → Blk F
  | 0, c => truncf .bf16 (part m c c d) bitsLt_bf16_f32
  | s + 1, c => acc (red d s (up d c)) (part m c (chunk d s c) d)

/-- What device `c` sends at hop `h`. -/
def carry : Hop → Dev nD → Blk F
  | (d, 0), c => red m d 0 c
  | (d, 1), c => red m d 1 c
  | (d, 2), c => red m d 2 c
  | (d, 3), c => red m d 3 c
  | (d, 4), c => red m d 3 (up d c)
  | (d, 5), c => red m d 3 (up d (up d c))

/-- The block device `c`'s `j`-th copy in direction `d` writes into its result, -/
def piece (d : Fin 2) : Fin 4 → Dev nD → Blk F
  | 0, c => red m d 3 c
  | 1, c => red m d 3 (up d c)
  | 2, c => red m d 3 (up d (up d c))
  | 3, c => red m d 3 (up d (up d (up d c)))

set_option backward.proofsInPublic true in
/-- and the row chunk it goes to. -/
def outChunk (d : Fin 2) (j : Fin 4) (c : Dev nD) : Fin 4 :=
  match d with
  | 0 => ⟨(c.val + 5 - j.val) % 4, Nat.mod_lt _ (by decide)⟩
  | 1 => ⟨(c.val + j.val + 3) % 4, Nat.mod_lt _ (by decide)⟩

/-! ## Owning a slot -/

/-- Device `c` owns a slot whole, at some contents. -/
def some_ {sp : Space} {s : Shape} {e : EltTy} (c : Dev nD) (M : Memref sig .tc sp s e) : sProp 𝕄 :=
  iprop(∃ T, owns (c : Thread nD τ) M fullShare T)

/-- Owning a view at some contents may be kept in an invariant. -/
instance some_storable {sp : Space} {s : Shape} {e : EltTy} (c : Dev nD) (M : Memref sig .tc sp s e) :
    BI.Storable (upEmb : UEmb _ 𝕄) (some_ (F := F) c M) := by unfold some_; infer_instance

/-! ## The schedule -/

/-- What a signal of direction `d` to `c`'s barrier hands over: the six landing slots, of the signalling device, that hops of
    direction `d` from `c` land in. -/
def barPay (c : Dev nD) (d : Fin 2) : sProp 𝕄 := bigSep Finset.univ fun s : Fin 6 => some_ (dn d c) (landM (d, s))
/-- What the departure hands back: the borrowed share of the source. -/
def sndPay (c : Dev nD) (h : Hop) : sProp 𝕄 := owns (c : Thread nD τ) (srcM h) (qs h.2) (carry m h c)
/-- What the arrival hands over: the landing slot with the neighbour's block. -/
def rcvPay (c : Dev nD) (h : Hop) : sProp 𝕄 := owns (c : Thread nD τ) (landM h) fullShare (carry m h (up h.1 c))

/-- One round of every cell. -/
def sched : Rounds.Schedule (GSem nD τ sig) (Fin 2) 𝕄 where
  duties g r := if r = 0 ∧ g.1.2 = .tc then (match cellAt g.2 with | some (.inl _) => Finset.univ | some (.inr _) => {0} | none => ∅) else ∅
  unitless _ := False
  amount g _ _ := match cellAt g.2 with | some (.inl _) => 1 | _ => N
  payload g _ d := match cellAt g.2 with
    | some (.inl _) => barPay g.1.1 d
    | some (.inr (.inl h)) => sndPay m g.1.1 h
    | some (.inr (.inr h)) => rcvPay m g.1.1 h
    | none => iprop(emp)
  amount_pos g _ _ _ := by split <;> first | exact Nat.one_pos | exact N_pos

/-- Every payload of the schedule may be kept in an invariant. -/
instance payload_storable (g : GSem nD τ sig) (r : ℕ) (d : Fin 2) : BI.Storable (upEmb : UEmb _ 𝕄) ((sched m).payload g r d) := by
  show BI.Storable upEmb (match cellAt g.2 with
    | some (.inl _) => barPay g.1.1 d
    | some (.inr (.inl h)) => sndPay m g.1.1 h
    | some (.inr (.inr h)) => rcvPay m g.1.1 h
    | none => iprop(emp))
  unfold barPay sndPay rcvPay
  split <;> infer_instance

section Tables
variable (c : Dev nD) (h : Hop) (d : Fin 2)

/-- A barrier cell has one duty per direction. -/
theorem duties_bar : (sched m).duties (barCell c) 0 = Finset.univ := by
  dsimp only [sched]; rw [if_pos ⟨rfl, rfl⟩, cellAt_bar]
/-- A send cell has one duty. -/
theorem duties_snd : (sched m).duties (sndCell c h) 0 = {0} := by
  dsimp only [sched]; rw [if_pos ⟨rfl, rfl⟩, cellAt_snd]
/-- A receive cell has one duty. -/
theorem duties_rcv : (sched m).duties (rcvCell c h) 0 = {0} := by
  dsimp only [sched]; rw [if_pos ⟨rfl, rfl⟩, cellAt_rcv]
/-- No cell has a duty after its first round. -/
theorem duties_later (g : GSem nD τ sig) : ∀ r, 1 ≤ r → (sched m).duties g r = ∅ :=
  fun r hr => by dsimp only [sched]; exact if_neg fun hh => by omega
/-- A duty of a barrier cell pays one unit. -/
theorem amount_bar : (sched m).amount (barCell c) 0 d = 1 := by dsimp only [sched]; rw [cellAt_bar]
/-- The duty of a send cell pays the credit of a block. -/
theorem amount_snd : (sched m).amount (sndCell c h) 0 d = N := by dsimp only [sched]; rw [cellAt_snd]
/-- The duty of a receive cell pays the credit of a block. -/
theorem amount_rcv : (sched m).amount (rcvCell c h) 0 d = N := by dsimp only [sched]; rw [cellAt_rcv]
/-- What a duty of a barrier cell hands over: the landing slots of that direction. -/
theorem payload_bar : (sched m).payload (barCell c) 0 d = barPay c d := by dsimp only [sched]; rw [cellAt_bar]
/-- What the duty of a send cell hands over: the share of the source. -/
theorem payload_snd : (sched m).payload (sndCell c h) 0 d = sndPay m c h := by dsimp only [sched]; rw [cellAt_snd]
/-- What the duty of a receive cell hands over: the landing slot with its block. -/
theorem payload_rcv : (sched m).payload (rcvCell c h) 0 d = rcvPay m c h := by dsimp only [sched]; rw [cellAt_rcv]

/-- A barrier cell waits for two units. -/
theorem expect_bar : (sched m).expect (barCell c) 0 = 2 := by
  unfold Schedule.expect Schedule.amountOf
  rw [duties_bar, Finset.sum_congr rfl fun d _ => amount_bar m c d, Finset.sum_const]; rfl
/-- A send cell waits for the credit of a block. -/
theorem expect_snd : (sched m).expect (sndCell c h) 0 = N := by
  unfold Schedule.expect Schedule.amountOf; rw [duties_snd, Finset.sum_singleton, amount_snd]
/-- A receive cell waits for the credit of a block. -/
theorem expect_rcv : (sched m).expect (rcvCell c h) 0 = N := by
  unfold Schedule.expect Schedule.amountOf; rw [duties_rcv, Finset.sum_singleton, amount_rcv]

/-- All of a barrier cell's round: both neighbours' landing slots. -/
theorem rest_bar : bigSep ((sched m).duties (barCell c) 0 \ ∅) (fun d => (sched m).payload (barCell c) 0 d) = iprop(barPay c 0 ∗ barPay c 1) := by
  rw [Finset.sdiff_empty, duties_bar, bigSep_univ_eq_bigSepL [0, 1] (by decide) (by decide), bigSepL_cons_cons, bigSepL_singleton, payload_bar, payload_bar]
  rfl
/-- All that a send cell hands over in its round is the share of the source. -/
theorem rest_snd : bigSep ((sched m).duties (sndCell c h) 0 \ ∅) (fun d => (sched m).payload (sndCell c h) 0 d) = sndPay m c h := by
  rw [Finset.sdiff_empty, duties_snd, bigSep_singleton, payload_snd]
/-- All that a receive cell hands over in its round is the landing slot with its block. -/
theorem rest_rcv : bigSep ((sched m).duties (rcvCell c h) 0 \ ∅) (fun d => (sched m).payload (rcvCell c h) 0 d) = rcvPay m c h := by
  rw [Finset.sdiff_empty, duties_rcv, bigSep_singleton, payload_rcv]

end Tables

/-! ## What a device owes, and the levels of the cells -/

/-- The place of a hop in the order the body sends them. -/
def turn (h : Hop) : ℕ := 2 * h.2.val + h.1.val
/-- The hops from place `k` on. -/
def left_ (k : ℕ) : Finset Hop := Finset.univ.filter fun h => k ≤ turn h
/-- The credit device `c` owes for them. -/
def debt (c : Dev nD) (k : ℕ) : CellTallies nD τ sig Unit := ∑ h ∈ left_ k, tallyAt (rcvCell (dn h.1 c) h) () N
/-- With the second signal still to come, -/
def debt₁ (c : Dev nD) : CellTallies nD τ sig Unit := debt c 0 + tallyAt (barCell (up 1 c)) () 1
/-- with both. -/
def debt₀ (c : Dev nD) : CellTallies nD τ sig Unit := debt₁ c + tallyAt (barCell (up 0 c)) () 1

/-- Different hops have different places in the order. -/
theorem turn_injective : ∀ h h' : Hop, turn h = turn h' → h = h' := by decide

/-- A send pays the first of them. -/
theorem debt_peel (c : Dev nD) (h : Hop) : debt c (turn h) = debt c (turn h + 1) + tallyAt (rcvCell (dn h.1 c) h) () N := by
  unfold debt
  have hs : left_ (turn h) = insert h (left_ (turn h + 1)) := by
    ext h'; simp only [left_, Finset.mem_filter, Finset.mem_univ, true_and, Finset.mem_insert]
    constructor
    · intro hle
      rcases Nat.eq_or_lt_of_le hle with he | hl
      · exact Or.inl (turn_injective _ _ he.symm)
      · exact Or.inr hl
    · rintro (rfl | hl)
      · exact le_rfl
      · omega
  have hn : h ∉ left_ (turn h + 1) := by simp [left_]
  rw [hs, Finset.sum_insert hn, add_comm]

/-- After the twelfth hop nothing is owed. -/
theorem debt_end (c : Dev nD) : debt c 12 = 0 := by
  unfold debt
  have : left_ 12 = ∅ := by decide
  rw [this, Finset.sum_empty]

/-- The cells that carry a level: those of the cores that run the kernel. -/
def L (g : GSem nD τ sig) : Finset Unit := if g.1.2 = .tc then {()} else ∅
/-- Barriers at 1, the receive cells of step `s` at `2 + s`, everything else at 0. -/
def lv (g : GSem nD τ sig) (_ : Unit) : ℕ :=
  match cellAt g.2 with
  | some (.inl _) => 1
  | some (.inr (.inr h)) => 2 + h.2.val
  | _ => 0

/-- A cell of any other core carries no level. -/
theorem L_of_ne (g : GSem nD τ sig) (h : g.1.2 ≠ .tc) : L g = ∅ := if_neg h
/-- A cell of a core that runs the kernel carries one level. -/
theorem L_tc (c : Dev nD) (sm : SemLoc sig) : L ((c : Thread nD τ), sm) = {()} := if_pos rfl

/-- What a device owes from place `k` on, it owes to receive cells of hops from place `k` on. -/
theorem debt_pos {c : Dev nD} {k : ℕ} {g : GSem nD τ sig} {u : Unit} (hp : 0 < debt c k g u) : ∃ h ∈ left_ k, g = rcvCell (dn h.1 c) h := by
  by_contra hn
  push Not at hn
  have : debt c k g u = 0 := by
    unfold debt
    rw [Finset.sum_apply, Finsupp.finset_sum_apply]
    refine Finset.sum_eq_zero fun h hh => ?_
    rw [tallyAt_apply, if_neg fun he => hn h hh he.1]
  omega

/-- A device may wait on a cell below every hop it still owes. -/
theorem mayWait_debt (c : Dev nD) (sm : SemLoc sig) (k n : ℕ) (hn : lv ((c : Thread nD τ), sm) () ≤ n) (hk : ∀ h ∈ left_ k, n < 2 + h.2.val) :
    (levAts L lv : sProp 𝕄) ⊢ MayWait (c : Thread nD τ) sm () (debt c k) :=
  MayOwe.of_cut (L := L) (lev := lv) n (fun p hp => by rw [Finset.mem_singleton.mp hp, L_tc]; exact Finset.mem_singleton_self _)
    (fun g u hg => by obtain ⟨h, -, rfl⟩ := debt_pos hg; rw [L_tc]; exact Finset.mem_singleton_self _)
    (fun p hp => by rw [Finset.mem_singleton.mp hp]; exact hn)
    (fun g u hg => by obtain ⟨h, hh, rfl⟩ := debt_pos hg; dsimp only [lv]; rw [cellAt_rcv]; exact hk h hh)

end Cert.TwoWay

end
-- ==== Proof.Steps.lean ====
/-
# The body's steps, one lemma each

Each lemma runs one kind of step of the body at the head of a program, for a device `c` at large: a hop's send and its two waits,
a copy of rows of `x` into its landing buffer and the wait for it, a copy of a block into the result and the wait for it, and the
loads and stores of a slot. The views, semaphores and devices of the program are taken as variables with equations to the names
of `Common`, which hold by computation at every place of use.
-/
module

public import proofs.«01_k».proof.Proof.Common

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- Device `c` runs `p`, and `Q` holds of what it returns. -/
abbrev runs (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What everyone may consult -/

/-- The cells' invariants, that each is at round `0`, and the levels. -/
def recs (K : Dev nD × Cell → ℕ) : sProp 𝕄 :=
  iprop((bigSep Finset.univ fun x => cellInv ER (sched m) (K x) (kcell x)) ∗ (bigSep Finset.univ fun x => reached ER (kcell x) 0) ∗ levAts L lv)

/-- The records may be used any number of times. -/
instance recs_persistent (K : Dev nD × Cell → ℕ) : BI.Persistent (recs m K) := by unfold recs; infer_instance

variable (K : Dev nD × Cell → ℕ)

/-- The invariant of one cell, out of those of all. -/
theorem invs_at (x : Dev nD × Cell) :
    (bigSep Finset.univ fun x => (cellInv ER (sched m) (K x) (kcell x) : sProp 𝕄)) ⊢ cellInv ER (sched m) (K x) (kcell x) :=
  bigSep_elim (Finset.mem_univ x)
/-- That one cell is at round `0`, out of what is known of all. -/
theorem marks_at (x : Dev nD × Cell) :
    (bigSep Finset.univ fun x => (reached ER (kcell x) 0 : sProp 𝕄)) ⊢ reached ER (kcell x) 0 :=
  bigSep_elim (Finset.mem_univ x)
/-- The records give the invariant of every cell. -/
theorem recs_inv (x : Dev nD × Cell) : recs m K ⊢ cellInv ER (sched m) (K x) (kcell x) := by
  unfold recs; iintro ⟨H, -, -⟩; iapply (invs_at m K x); iexact H
/-- The records give that every cell is at round `0`. -/
theorem recs_reached (x : Dev nD × Cell) : recs m K ⊢ reached ER (kcell x) 0 := by
  unfold recs; iintro ⟨-, H, -⟩; iapply (marks_at (F := F) x); iexact H
/-- The records give the levels. -/
theorem recs_lev : recs m K ⊢ levAts L lv := by
  unfold recs; iintro ⟨-, -, H⟩; iexact H

/-- A view written whole is owned at what was written. -/
theorem owns_wrote (c : Dev nD) {sp : Space} {s : Shape} {e : EltTy} (M : Memref sig .tc sp s e) (f : M.view.ty.Contents (Elt F)) (w T : s.Idx → Elt F e)
    (h : w = T) : (M.view.loc (c : Thread nD τ) ↦[M.view.set]{fullShare} (M.view.write (Elt F) f w Finset.univ) : sProp 𝕄)
      ⊢ owns (c : Thread nD τ) M fullShare T := by
  subst h
  exact (owns_intro (c : Thread nD τ) M fullShare _).trans (Entails.of_eq (by rw [View.read_write_univ]))

/-! ## A hop -/

/-- What device `c` owes, whatever it has waited on. -/
def Owe (c : Dev nD) (O : CellTallies nD τ sig Unit) : sProp 𝕄 := iprop(∃ W, owes (c : Thread nD τ) O W)

/-- Device `c`'s part in hop `h`, at launch: its positions in its two cells, the two duties it pays, and the credit for its arrival. -/
def plan (c : Dev nD) (h : Hop) : sProp 𝕄 :=
  iprop(atPos ER (sndCell c h) 0 ∅ 0 ∗ atPos ER (rcvCell c h) 0 ∅ 0 ∗ dutyTok ER (sndCell c h) 0 0 ∗ dutyTok ER (rcvCell (dn h.1 c) h) 0 0
    ∗ cred (tallyAt (rcvCell c h) () N))
/-- Once it has sent: the credit for the departure. -/
def sent (c : Dev nD) (h : Hop) : sProp 𝕄 := iprop(atPos ER (sndCell c h) 0 ∅ 0 ∗ cred (tallyAt (sndCell c h) () N))
/-- The arrival still to come. -/
def due (c : Dev nD) (h : Hop) : sProp 𝕄 := iprop(atPos ER (rcvCell c h) 0 ∅ 0 ∗ cred (tallyAt (rcvCell c h) () N))

/-- Sending hop `h`: a device with its part in the hop, a share of the source and the neighbour's landing slot starts the copy,
    pays what it owes for it, and keeps the position of its send cell. -/
theorem send_core (c n : Dev nD) (h : Hop) (hn : n = dn h.1 c) (src dst : Slot) (sS sR : DmaSem sig) (hsrc : src = srcM h) (hdst : dst = landM h)
    (hS : sS = sndS h) (hR : sR = rcvS h) {hsc : (dst : Memref sig (Dev.tc n : Thread nD τ).2.kind .vmem S256x2048 .bf16).view.ref.isScScratch = false}
    {hws : src.view.WordExact} {hwd : (dst : Memref sig (Dev.tc n : Thread nD τ).2.kind .vmem S256x2048 .bf16).view.WordExact}
    {hty : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(recs m K ∗ plan c h ∗ owns (c : Thread nD τ) (srcM h) (qs h.2) (carry m h c) ∗ some_ (dn h.1 c) (landM h) ∗ Owe c (debt c (turn h)))
      ⊢ iprop(((sent c h ∗ due c h ∗ Owe c (debt c (turn h + 1))) -∗ runs c (k ⟨⟩) Q)
          -∗ runs c (.op (.enqueueDma src (.remote (Dev.tc n : Thread nD τ) dst (.dma sS) hsc) (.dma sR) hws hwd hty) k) Q) := by
  subst hn hsrc hdst hS hR
  unfold plan sent due some_ Owe owns
  iintro ⟨#Hr, ⟨HaS, HaR, HtS, HtR, HcR⟩, ⟨%fs, %hfs, Hs⟩, ⟨%T, %fd, %hfd, Hd⟩, ⟨%W, Ho⟩⟩ Hk
  iapply (Rounds.wp_send_pointsTo 𝒱₀ ER (sched m) (c : Thread nD τ) none (κ₁ := K (c, .inr (.inl h))) (κ₂ := K (dn h.1 c, .inr (.inr h)))
    (r₁ := 0) (r₂ := 0) (d₁ := 0) (d₂ := 0) (fs := fs) (fd := fd) (q := qs h.2)
    (by rw [duties_snd]; exact Finset.mem_singleton_self _) (by rw [duties_rcv]; exact Finset.mem_singleton_self _)
    () () N (show (landM h).view.amount (.dma (rcvS h)) = N from land_credit h) (amount_snd m c h 0) (amount_rcv m (dn h.1 c) h 0) (debt c (turn h + 1)) (debt_peel c h) (W := W)
    (by rw [payload_snd]; unfold sndPay owns; iintro H; iexists fs; isplitr; · (ipureintro; exact hfs)
        iexact H)
    (by rw [payload_rcv]; unfold rcvPay; rw [up_dn]; exact owns_wrote (dn h.1 c) (landM h) fd _ _ hfs)) $$ [Hs Hd Ho HtS HtR]
  · isplitr; · iapply (recs_inv m K (c, .inr (.inl h))); iexact Hr
    isplitr; · iapply (recs_inv m K (dn h.1 c, .inr (.inr h))); iexact Hr
    isplitl [Hs]; · iexact Hs
    isplitl [Hd]; · iexact Hd
    isplitl [Ho]; · iexact Ho
    isplitl [HtS]; · iexact HtS
    isplitr; · iapply (recs_reached m K (c, .inr (.inl h))); iexact Hr
    isplitl [HtR]; · iexact HtR
    iapply (recs_reached m K (dn h.1 c, .inr (.inr h))); iexact Hr
  iintro ⟨HcS, Ho⟩
  iapply Hk
  isplitl [HaS HcS]; · isplitl [HaS] <;> iassumption
  isplitl [HaR HcR]; · isplitl [HaR] <;> iassumption
  iexists W; iexact Ho

/-- The wait for the departure: the borrowed share of the source back, and the send cell closed. -/
theorem wait_snd (c : Dev nD) (h : Hop) (k₀ : ℕ) {sp sp' : Space} {s₁ s₂ : Shape} {e₁ e₂ : EltTy} (srcw : Memref sig .tc sp s₁ e₁) (dstw : Memref sig .tc sp' s₂ e₂)
    (sS : DmaSem sig) (hS : sS = sndS h) (hN : dstw.view.dmaCredit = N) {hws : srcw.view.WordExact} {hwd : dstw.view.WordExact}
    {α : Type} {Q : α → sProp 𝕄} {k : PUnit → Prog (TpuEff nD τ sig (Elt F) Λ₀ .tc) α} :
    iprop(recs m K ∗ sent c h ∗ Owe c (debt c k₀))
      ⊢ iprop(((owns (c : Thread nD τ) (srcM h) (qs h.2) (carry m h c) ∗ semVal (sndCell c h) 0 ∗ Owe c (debt c k₀)) -∗ runs c (k ⟨⟩) Q)
          -∗ runs c (.op (.waitDma2 sS srcw dstw hws hwd) k) Q) := by
  subst hS
  unfold sent Owe
  iintro ⟨#Hr, ⟨Hat, Hc⟩, ⟨%W, Ho⟩⟩ Hk
  rw [← hN]
  iapply (Rounds.wp_wait_rest_token 𝒱₀ ER (sched m) (c : Thread nD τ) none (κ := K (c, .inr (.inl h)))
      (wpE_waitDma2_eq 𝒱₀ (c : Thread nD τ) none Set.univ) (Set.mem_univ _) () (O := debt c k₀) (W := W) (R := 0) (m := 0) (T := ∅)
      (by rw [Nat.zero_add, expect_snd, hN])) $$ [Hc Ho Hat]
  · isplitr; · iapply (recs_inv m K (c, .inr (.inl h))); iexact Hr
    isplitl [Hc]; · iexact Hc
    isplitl [Ho]; · iexact Ho
    isplitr
    · iapply (mayWait_debt (F := F) c (.dma (sndS h)) k₀ 0 (by dsimp only [lv]; rw [cellAt_snd]) (fun _ _ => by omega))
      iapply (recs_lev m K); iexact Hr
    iexact Hat
  iintro ⟨Ho, Hat, -, Hp⟩
  ihave Hp := (Entails.of_eq (rest_snd m c h)) $$ Hp
  imod (Rounds.cell_close ER (sched m) (Set.mem_univ (K (c, .inr (.inl h)))) (fun h => h) (R := 0 + 1) (duties_later m (sndCell c h))) $$ [Hat] with Hz
  · isplitr; · iapply (recs_inv m K (c, .inr (.inl h))); iexact Hr
    iexact Hat
  iapply Hk
  unfold sndPay
  isplitl [Hp]; · iexact Hp
  isplitl [Hz]; · iexact Hz
  iexists _; iexact Ho

/-- The wait for the arrival, on a step below every hop still owed: the landing slot with the neighbour's block, and the receive
    cell closed. -/
theorem wait_rcv (c : Dev nD) (h : Hop) (k₀ : ℕ) (hk : ∀ h' ∈ left_ k₀, 2 + h.2.val < 2 + h'.2.val)
    {sp sp' : Space} {s₁ s₂ : Shape} {e₁ e₂ : EltTy} (srcw : Memref sig .tc sp s₁ e₁) (dstw : Memref sig .tc sp' s₂ e₂)
    (sR : DmaSem sig) (hR : sR = rcvS h) (hN : dstw.view.dmaCredit = N) {hws : srcw.view.WordExact} {hwd : dstw.view.WordExact}
    {α : Type} {Q : α → sProp 𝕄} {k : PUnit → Prog (TpuEff nD τ sig (Elt F) Λ₀ .tc) α} :
    iprop(recs m K ∗ due c h ∗ Owe c (debt c k₀))
      ⊢ iprop(((owns (c : Thread nD τ) (landM h) fullShare (carry m h (up h.1 c)) ∗ semVal (rcvCell c h) 0 ∗ Owe c (debt c k₀)) -∗ runs c (k ⟨⟩) Q)
          -∗ runs c (.op (.waitDma2 sR srcw dstw hws hwd) k) Q) := by
  subst hR
  unfold due Owe
  iintro ⟨#Hr, ⟨Hat, Hc⟩, ⟨%W, Ho⟩⟩ Hk
  rw [← hN]
  iapply (Rounds.wp_wait_rest_token 𝒱₀ ER (sched m) (c : Thread nD τ) none (κ := K (c, .inr (.inr h)))
      (wpE_waitDma2_eq 𝒱₀ (c : Thread nD τ) none Set.univ) (Set.mem_univ _) () (O := debt c k₀) (W := W) (R := 0) (m := 0) (T := ∅)
      (by rw [Nat.zero_add, expect_rcv, hN])) $$ [Hc Ho Hat]
  · isplitr; · iapply (recs_inv m K (c, .inr (.inr h))); iexact Hr
    isplitl [Hc]; · iexact Hc
    isplitl [Ho]; · iexact Ho
    isplitr
    · iapply (mayWait_debt (F := F) c (.dma (rcvS h)) k₀ (2 + h.2.val) (by dsimp only [lv]; rw [cellAt_rcv]) hk)
      iapply (recs_lev m K); iexact Hr
    iexact Hat
  iintro ⟨Ho, Hat, -, Hp⟩
  ihave Hp := (Entails.of_eq (rest_rcv m c h)) $$ Hp
  imod (Rounds.cell_close ER (sched m) (Set.mem_univ (K (c, .inr (.inr h)))) (fun h => h) (R := 0 + 1) (duties_later m (rcvCell c h))) $$ [Hat] with Hz
  · isplitr; · iapply (recs_inv m K (c, .inr (.inr h))); iexact Hr
    iexact Hat
  iapply Hk
  unfold rcvPay
  isplitl [Hp]; · iexact Hp
  isplitl [Hz]; · iexact Hz
  iexists _; iexact Ho

/-! ## Rows of `x` -/

/-- Copies of rows of `x` into half `d` read one half of `x`'s share. -/
def xq : Fin 2 → PosShare TreeShare
  | 0 => fullShare.left
  | 1 => fullShare.right

/-- Device `c`'s `x`, at the share copies into half `d` read with. -/
def xPts (c : Dev nD) (d : Fin 2) : sProp 𝕄 := ((c : Thread nD τ).loc main_arg0) ↦{xq d} m ((c : Thread nD τ).loc main_arg0)

/-- The credit of a copy of rows of `x`. -/
def NX : ℕ := (xM 0).view.dmaCredit
/-- Both halves of the buffer for rows of `x` take the same credit. -/
theorem x_credit (d : Fin 2) : (xM d).view.dmaCredit = NX := by fin_cases d <;> rfl
/-- The credit of a copy of rows of `x` is positive. -/
theorem NX_pos : 0 < NX := View.dmaCredit_pos _ (by decide)

/-- The rows of `x` lie in the first argument. -/
theorem xRows_loc (c : Dev nD) (k : Fin 4) (d : Fin 2) : (xRows k d).view.loc (c : Thread nD τ) = (c : Thread nD τ).loc main_arg0 := rfl

/-- A copy of half `d` of row chunk `k` into its landing buffer, under way. -/
def xFly (c : Dev nD) (k : Fin 4) (d : Fin 2) : sProp 𝕄 :=
  iprop(Transfers.Flight countersEmb (c : Thread nD τ) (.dma (xS d)) () NX
      iprop(owns (c : Thread nD τ) (xM d) fullShare (Xb m c k d)
        ∗ ((xRows k d).view.loc (c : Thread nD τ) ↦[(xRows k d).view.set]{xq d} m ((c : Thread nD τ).loc main_arg0)))
    ∗ (((c : Thread nD τ).loc main_arg0) ↦[Finset.univ \ (xRows k d).view.set]{xq d} m ((c : Thread nD τ).loc main_arg0)))

/-- A slice of `x` at the offset of half `d` of chunk `k` is that half. -/
theorem xRows_of (k : Fin 4) (d : Fin 2) (off : Fin 2 → ℕ) (ho : off = ![512 * k.val + 256 * d.val, 0])
    (hi : ∀ a, off a + S256x2048.size a ≤ S2048x2048.size a) :
    (Memref.whole main_arg0 : Memref sig .tc .hbm S2048x2048 .f32).slice (Rect.unit (s := S2048x2048) off S256x2048.size hi) (fun _ => rfl) = xRows k d := by
  subst ho; rfl
/-- A slice of the result at the offset of half `d` of chunk `k` is that half. -/
theorem outRows_of (k : Fin 4) (d : Fin 2) (off : Fin 2 → ℕ) (ho : off = ![512 * k.val + 256 * d.val, 0])
    (hi : ∀ a, off a + S256x2048.size a ≤ S2048x2048.size a) :
    (Memref.whole main_v1 : Memref sig .tc .hbm S2048x2048 .bf16).slice (Rect.unit (s := S2048x2048) off S256x2048.size hi) (fun _ => rfl) = outRows k d := by
  subst ho; rfl

/-- A copy of rows of `x` into their buffer starts, and is then under way. -/
theorem x_start (c : Dev nD) (kc : Fin 4) (d : Fin 2) (src : Memref sig .tc .hbm S256x2048 .f32) (dst : Memref sig .tc .vmem S256x2048 .f32) (sm : DmaSem sig)
    (hsrc : src = xRows kc d) (hdst : dst = xM d) (hs : sm = xS d) {hws : src.view.WordExact} {hwd : dst.view.WordExact}
    {hty : DmaTarget.Typed (nD := nD) (τ := τ) (sig := sig) (p := .tc) .hbm (.dma sm) (.here dst)}
    {α : Type} {Q : α → sProp 𝕄} {k : PUnit → Prog (TpuEff nD τ sig (Elt F) Λ₀ .tc) α} :
    iprop(xPts m c d ∗ some_ c (xM d) ∗ semVal ((c : Thread nD τ), .dma (xS d)) 0)
      ⊢ iprop((xFly m c kc d -∗ runs c (k ⟨⟩) Q) -∗ runs c (.op (.enqueueDma src (.here dst) (.dma sm) hws hwd hty) k) Q) := by
  subst hsrc hdst hs
  unfold xPts some_ owns
  iintro ⟨Hx, ⟨%T, %fd, %hfd, Hd⟩, Hz⟩ Hk
  ihave Hx := (pointsTo_split_subset (Finset.subset_univ (xRows kc d).view.set)).1 $$ Hx
  icases Hx with ⟨Hs, Hrest⟩
  iapply (Transfers.wp_dmaLocal countersEmb 𝒱₀ (c : Thread nD τ) none (src := xRows kc d) (dst := xM d) (sm := .dma (xS d)) (via := .same)
    (fs := m ((c : Thread nD τ).loc main_arg0)) (fd := fd) (q := xq d) () NX (x_credit d) NX_pos (Finset.Subset.refl _)) $$ [Hs Hd Hz]
  · isplitl [Hs]; · iexact Hs
    isplitl [Hd]; · iexact Hd
    iexact Hz
  iintro Hf
  iapply Hk
  unfold xFly
  isplitl [Hf]
  · iapply (Transfers.Flight_mono countersEmb (c : Thread nD τ) (show iprop(((xM d).view.loc (c : Thread nD τ) ↦[(xM d).view.set]{fullShare}
        ((xM d).view.write (Elt F) fd ((xRows kc d).view.read (Elt F) (m ((c : Thread nD τ).loc main_arg0))) Finset.univ))
        ∗ ((xRows kc d).view.loc (c : Thread nD τ) ↦[(xRows kc d).view.set]{xq d} m ((c : Thread nD τ).loc main_arg0))) ⊢ _ from ?_)) $$ Hf
    iintro ⟨Hd, Hs⟩
    isplitl [Hd]
    · iapply (owns_wrote (F := F) c (xM d) fd _ _ rfl); iexact Hd
    iexact Hs
  iexact Hrest

/-- The wait for it. -/
theorem x_wait (c : Dev nD) (kc : Fin 4) (d : Fin 2) (k₀ : ℕ) {sp sp' : Space} {s₁ s₂ : Shape} {e₁ e₂ : EltTy} (srcw : Memref sig .tc sp s₁ e₁) (dstw : Memref sig .tc sp' s₂ e₂) (sm : DmaSem sig)
    (hs : sm = xS d) (hN : dstw.view.dmaCredit = NX) {hws : srcw.view.WordExact} {hwd : dstw.view.WordExact}
    {α : Type} {Q : α → sProp 𝕄} {k : PUnit → Prog (TpuEff nD τ sig (Elt F) Λ₀ .tc) α} :
    iprop(recs m K ∗ xFly m c kc d ∗ Owe c (debt c k₀))
      ⊢ iprop(((xPts m c d ∗ owns (c : Thread nD τ) (xM d) fullShare (Xb m c kc d) ∗ semVal ((c : Thread nD τ), .dma (xS d)) 0 ∗ Owe c (debt c k₀)) -∗ runs c (k ⟨⟩) Q)
          -∗ runs c (.op (.waitDma2 sm srcw dstw hws hwd) k) Q) := by
  subst hs
  unfold xFly Owe
  iintro ⟨#Hr, ⟨Hf, Hrest⟩, ⟨%W, Ho⟩⟩ Hk
  iapply (Transfers.wp_waitLocalO countersEmb 𝒱₀ (c : Thread nD τ) none () hN) $$ [Hf Ho]
  · isplitl [Hf]; · iexact Hf
    isplitl [Ho]; · iexact Ho
    iapply (mayWait_debt (F := F) c (.dma (xS d)) k₀ 0 (by dsimp only [lv]; rw [cellAt_x]) (fun _ _ => by omega))
    iapply (recs_lev m K); iexact Hr
  iintro ⟨⟨Hx, Hs⟩, Hz, Ho⟩
  iapply Hk
  isplitl [Hs Hrest]
  · unfold xPts
    iapply (pointsTo_split_subset (Finset.subset_univ (xRows kc d).view.set)).2
    isplitl [Hs] <;> iassumption
  isplitl [Hx]; · iexact Hx
  isplitl [Hz]; · iexact Hz
  iexists _; iexact Ho

/-! ## Blocks of the result -/

/-- The credit of a copy into the result. -/
def NO : ℕ := (outRows 0 0).view.dmaCredit
/-- Every block of the result takes the same credit. -/
theorem out_credit (k : Fin 4) (d : Fin 2) : (outRows k d).view.dmaCredit = NO := by fin_cases k <;> fin_cases d <;> rfl
/-- The credit of a copy into the result is positive. -/
theorem NO_pos : 0 < NO := View.dmaCredit_pos _ (by decide)

/-- The `j`-th copy of direction `d` into the result, of a block `T` in slot `M`, under way. -/
def outFly (c : Dev nD) (d : Fin 2) (j : Fin 4) (kc : Fin 4) (M : Slot) (q : PosShare TreeShare) (T : Blk F) : sProp 𝕄 :=
  Transfers.Flight countersEmb (c : Thread nD τ) (.dma (outS d j)) () NO
    iprop(owns (c : Thread nD τ) (outRows kc d) fullShare T ∗ owns (c : Thread nD τ) M q T)

/-- A copy of a block into the result starts, and is then under way. -/
theorem out_start (c : Dev nD) (d : Fin 2) (j kc : Fin 4) (M : Slot) (q : PosShare TreeShare) (T : Blk F)
    (src : Slot) (dst : Memref sig .tc .hbm S256x2048 .bf16) (sm : DmaSem sig)
    (hsrc : src = M) (hdst : dst = outRows kc d) (hs : sm = outS d j) {hws : src.view.WordExact} {hwd : dst.view.WordExact}
    {hty : DmaTarget.Typed (nD := nD) (τ := τ) (sig := sig) (p := .tc) .vmem (.dma sm) (.here dst)}
    {α : Type} {Q : α → sProp 𝕄} {k : PUnit → Prog (TpuEff nD τ sig (Elt F) Λ₀ .tc) α} :
    iprop(owns (c : Thread nD τ) M q T ∗ some_ c (outRows kc d) ∗ semVal ((c : Thread nD τ), .dma (outS d j)) 0)
      ⊢ iprop((outFly c d j kc M q T -∗ runs c (k ⟨⟩) Q) -∗ runs c (.op (.enqueueDma src (.here dst) (.dma sm) hws hwd hty) k) Q) := by
  subst hsrc hdst hs
  unfold some_ owns
  iintro ⟨⟨%fs, %hfs, Hs⟩, ⟨%T', %fd, %hfd, Hd⟩, Hz⟩ Hk
  iapply (Transfers.wp_dmaLocal countersEmb 𝒱₀ (c : Thread nD τ) none (src := src) (dst := outRows kc d) (sm := .dma (outS d j)) (via := .same)
    (fs := fs) (fd := fd) (q := q) () NO (out_credit kc d) NO_pos (Finset.Subset.refl _)) $$ [Hs Hd Hz]
  · isplitl [Hs]; · iexact Hs
    isplitl [Hd]; · iexact Hd
    iexact Hz
  iintro Hf
  iapply Hk
  unfold outFly
  iapply (Transfers.Flight_mono countersEmb (c : Thread nD τ) (show iprop(((outRows kc d).view.loc (c : Thread nD τ) ↦[(outRows kc d).view.set]{fullShare}
      ((outRows kc d).view.write (Elt F) fd (src.view.read (Elt F) fs) Finset.univ))
      ∗ (src.view.loc (c : Thread nD τ) ↦[src.view.set]{q} fs)) ⊢ _ from ?_)) $$ Hf
  iintro ⟨Hd, Hs⟩
  isplitl [Hd]
  · iapply (owns_wrote (F := F) c (outRows kc d) fd _ _ hfs); iexact Hd
  unfold owns
  iexists fs; isplitr; · (ipureintro; exact hfs)
  iexact Hs

/-- The wait for a copy into the result gives back the block, now also in the result. -/
theorem out_wait (c : Dev nD) (d : Fin 2) (j kc : Fin 4) (M : Slot) (q : PosShare TreeShare) (T : Blk F) (k₀ : ℕ)
    {sp sp' : Space} {s₁ s₂ : Shape} {e₁ e₂ : EltTy} (srcw : Memref sig .tc sp s₁ e₁) (dstw : Memref sig .tc sp' s₂ e₂) (sm : DmaSem sig)
    (hs : sm = outS d j) (hN : dstw.view.dmaCredit = NO) {hws : srcw.view.WordExact} {hwd : dstw.view.WordExact}
    {α : Type} {Q : α → sProp 𝕄} {k : PUnit → Prog (TpuEff nD τ sig (Elt F) Λ₀ .tc) α} :
    iprop(recs m K ∗ outFly c d j kc M q T ∗ Owe c (debt c k₀))
      ⊢ iprop(((owns (c : Thread nD τ) (outRows kc d) fullShare T ∗ owns (c : Thread nD τ) M q T ∗ semVal ((c : Thread nD τ), .dma (outS d j)) 0 ∗ Owe c (debt c k₀)) -∗ runs c (k ⟨⟩) Q)
          -∗ runs c (.op (.waitDma2 sm srcw dstw hws hwd) k) Q) := by
  subst hs
  unfold outFly Owe
  iintro ⟨#Hr, Hf, ⟨%W, Ho⟩⟩ Hk
  iapply (Transfers.wp_waitLocalO countersEmb 𝒱₀ (c : Thread nD τ) none () hN) $$ [Hf Ho]
  · isplitl [Hf]; · iexact Hf
    isplitl [Ho]; · iexact Ho
    iapply (mayWait_debt (F := F) c (.dma (outS d j)) k₀ 0 (by dsimp only [lv]; rw [cellAt_out]) (fun _ _ => by omega))
    iapply (recs_lev m K); iexact Hr
  iintro ⟨⟨Hx, Hs⟩, Hz, Ho⟩
  iapply Hk
  isplitl [Hx]; · iexact Hx
  isplitl [Hs]; · iexact Hs
  isplitl [Hz]; · iexact Hz
  iexists _; iexact Ho

/-! ## Loads and stores -/

/-- A load of the rectangle under a slot returns the slot's block, in the rectangle's shape. -/
theorem load_slot (c : Dev nD) {s t : Shape} {e : EltTy} (B : Memref sig .tc .vmem s e) (r : Rect s) (hr : ∀ a, r.stride a = 1) (hq : r.shape.Squeezes t)
    (q : PosShare TreeShare) (T : t.Idx → Elt F e) (hc : r.shape.ShapeCasts t) {hl : B.view.LoadsAt r.toLoadRect}
    {α : Type} {Q : α → sProp 𝕄} {k : (r.shape.Idx → Elt F e) → Prog (TpuEff nD τ sig (Elt F) Λ₀ .tc) α} :
    owns (c : Thread nD τ) ((B.slice r hr).squeeze t hq) q T
      ⊢ iprop((∀ v : r.shape.Idx → Elt F e, ⌜shapeCast t v hc = T⌝ -∗ owns (c : Thread nD τ) ((B.slice r hr).squeeze t hq) q T -∗ runs c (k v) Q)
          -∗ runs c (.op (.load B r.toLoadRect hl) k) Q) := by
  unfold owns
  iintro ⟨%f, %hf, H⟩ Hk
  iapply (wp_load 𝒱₀ (c : Thread nD τ) none Set.univ (m := B) (r := r.toLoadRect) (S := ((B.slice r hr).squeeze t hq).view.set)
    (by show B.view.setOn r.set ⊆ ((B.slice r hr).view.reshape t hq.numel_eq).set
        rw [View.set_reshape]; exact (View.set_slice (v := B.view) r).symm.subset)) $$ H
  iintro H
  iapply Hk
  · ipureintro; exact (Memref.read_squeeze_slice B r hr hq hc f).symm.trans hf
  iexists f; isplitr; · (ipureintro; exact hf)
  iexact H

/-- A store over the rectangle under a slot leaves the slot at the block stored. -/
theorem store_slot (c : Dev nD) {s t : Shape} {e : EltTy} (B : Memref sig .tc .vmem s e) (r : Rect s) (hr : ∀ a, r.stride a = 1) (hq : r.shape.Squeezes t)
    (T T' : t.Idx → Elt F e) (w : r.shape.Idx → Elt F e) (hc : r.shape.ShapeCasts t) (hw : shapeCast t w hc = T') {hx : (B.access r).Stores Finset.univ} {hm : Finset.univ = Finset.univ ∨ ∀ a, r.stride a = 1}
    {α : Type} {Q : α → sProp 𝕄} {k : PUnit → Prog (TpuEff nD τ sig (Elt F) Λ₀ .tc) α} :
    owns (c : Thread nD τ) ((B.slice r hr).squeeze t hq) fullShare T
      ⊢ iprop((owns (c : Thread nD τ) ((B.slice r hr).squeeze t hq) fullShare T' -∗ runs c (k ⟨⟩) Q)
          -∗ runs c (.op (.store B r w Finset.univ hx hm) k) Q) := by
  unfold owns
  iintro ⟨%f, %hf, H⟩ Hk
  iapply (wp_store 𝒱₀ (c : Thread nD τ) none Set.univ (m := B) (r := r) (S := ((B.slice r hr).squeeze t hq).view.set)
    (by show (B.access r).set ⊆ ((B.slice r hr).view.reshape t hq.numel_eq).set
        rw [View.set_reshape])) $$ H
  iintro H
  iapply Hk
  iexists (B.access r).write (Elt F) f w Finset.univ; isplitr
  · ipureintro
    refine (Memref.read_squeeze_slice B r hr hq hc _).trans ?_
    rw [← hw]
    exact congrArg (fun v => shapeCast t v hc) (View.read_write_univ (v := B.access r) f w)
  iexact H

/-- Device `c` owns a staging buffer whole, at contents `X`. -/
def wAt (c : Dev nD) (b : Ref sig .tc) (X : b.ty.Contents (Elt F)) : sProp 𝕄 := ((c : Thread nD τ).loc b) ↦{fullShare} X

/-- A load of all of the first weight's staging buffer, -/
theorem load_Wa (c : Dev nD) (X : (cc0_stg0_0 : Ref sig .tc).ty.Contents (Elt F)) (off : Fin 2 → ℕ) (ho : off = fun _ => 0)
    (hi : ∀ a, off a + S2048x4096.size a ≤ S2048x4096.size a)
    {hl : (Memref.whole cc0_stg0_0 : Memref sig .tc .vmem S2048x4096 .bf16).view.LoadsAt (Rect.unit (s := S2048x4096) off S2048x4096.size hi).toLoadRect}
    {α : Type} {Q : α → sProp 𝕄} {k : Vec F S2048x4096 .bf16 → Prog (TpuEff nD τ sig (Elt F) Λ₀ .tc) α} :
    wAt c cc0_stg0_0 X
      ⊢ iprop((wAt c cc0_stg0_0 X -∗ runs c (k X) Q)
          -∗ runs c (.op (.load (Memref.whole cc0_stg0_0 : Memref sig .tc .vmem S2048x4096 .bf16) (Rect.unit (s := S2048x4096) off S2048x4096.size hi).toLoadRect hl) k) Q) := by
  unfold wAt
  iintro H Hk
  iapply (wp_load 𝒱₀ (c : Thread nD τ) none Set.univ (m := (Memref.whole cc0_stg0_0 : Memref sig .tc .vmem S2048x4096 .bf16)) (Finset.subset_univ _)) $$ H
  iintro H
  rw [show (Memref.whole cc0_stg0_0 : Memref sig .tc .vmem S2048x4096 .bf16).view.readAt (Elt F) (Rect.unit (s := S2048x4096) off S2048x4096.size hi).toLoadRect X = X from
    Memref.readAt_unit_zero (Elt F) cc0_stg0_0 ho _ X]
  iapply Hk; iexact H

/-- and of all of the second's. -/
theorem load_Wb (c : Dev nD) (X : (cc0_stg1_0 : Ref sig .tc).ty.Contents (Elt F)) (off : Fin 2 → ℕ) (ho : off = fun _ => 0)
    (hi : ∀ a, off a + S4096x2048.size a ≤ S4096x2048.size a)
    {hl : (Memref.whole cc0_stg1_0 : Memref sig .tc .vmem S4096x2048 .bf16).view.LoadsAt (Rect.unit (s := S4096x2048) off S4096x2048.size hi).toLoadRect}
    {α : Type} {Q : α → sProp 𝕄} {k : Vec F S4096x2048 .bf16 → Prog (TpuEff nD τ sig (Elt F) Λ₀ .tc) α} :
    wAt c cc0_stg1_0 X
      ⊢ iprop((wAt c cc0_stg1_0 X -∗ runs c (k X) Q)
          -∗ runs c (.op (.load (Memref.whole cc0_stg1_0 : Memref sig .tc .vmem S4096x2048 .bf16) (Rect.unit (s := S4096x2048) off S4096x2048.size hi).toLoadRect hl) k) Q) := by
  unfold wAt
  iintro H Hk
  iapply (wp_load 𝒱₀ (c : Thread nD τ) none Set.univ (m := (Memref.whole cc0_stg1_0 : Memref sig .tc .vmem S4096x2048 .bf16)) (Finset.subset_univ _)) $$ H
  iintro H
  rw [show (Memref.whole cc0_stg1_0 : Memref sig .tc .vmem S4096x2048 .bf16).view.readAt (Elt F) (Rect.unit (s := S4096x2048) off S4096x2048.size hi).toLoadRect X = X from
    Memref.readAt_unit_zero (Elt F) cc0_stg1_0 ho _ X]
  iapply Hk; iexact H

/-- The offset of a load of a whole staging buffer. -/
theorem off_zero : (![0, 0] : Fin 2 → ℕ) = fun _ => 0 := funext fun a => by fin_cases a <;> rfl

/-! ## Slots in another form -/

/-- A slot owned at some contents, the contents named. -/
theorem some_open {sp : Space} {s : Shape} {e : EltTy} (c : Dev nD) (M : Memref sig .tc sp s e) :
    (some_ c M : sProp 𝕄) ⊢ iprop(∃ T, owns (c : Thread nD τ) M fullShare T) := by unfold some_; exact Entails.refl _
/-- A slot owned at known contents, the contents forgotten. -/
theorem owns_some {sp : Space} {s : Shape} {e : EltTy} (c : Dev nD) (M : Memref sig .tc sp s e) (T : s.Idx → Elt F e) :
    owns (c : Thread nD τ) M fullShare T ⊢ (some_ c M : sProp 𝕄) := by unfold some_; iintro H; iexists T; iexact H
/-- A slot halved, for a hop and a copy into the result to read at the same time, -/
theorem owns_halve {sp : Space} {s : Shape} {e : EltTy} (c : Dev nD) (M : Memref sig .tc sp s e) (T : s.Idx → Elt F e) :
    owns (c : Thread nD τ) M fullShare T ⊢ (iprop(owns (c : Thread nD τ) M fullShare.left T ∗ owns (c : Thread nD τ) M fullShare.right T) : sProp 𝕄) :=
  (owns_halves (c : Thread nD τ) M fullShare T).1
/-- and whole again. -/
theorem owns_whole_some {sp : Space} {s : Shape} {e : EltTy} (c : Dev nD) (M : Memref sig .tc sp s e) (T : s.Idx → Elt F e) :
    (iprop(owns (c : Thread nD τ) M fullShare.left T ∗ owns (c : Thread nD τ) M fullShare.right T) : sProp 𝕄) ⊢ some_ c M :=
  ((owns_halves (c : Thread nD τ) M fullShare T).2).trans (owns_some c M T)

/-! ## The barrier -/

/-- Device `c`'s part in the barrier: its own cell's position and the two units to come, and the duties it pays to its neighbours. -/
def barPlan (c : Dev nD) : sProp 𝕄 :=
  iprop(atPos ER (barCell c) 0 ∅ 0 ∗ cred (tallyAt (barCell c) () 2) ∗ dutyTok ER (barCell (up 0 c)) 0 0 ∗ dutyTok ER (barCell (up 1 c)) 0 1)

/-- Signalling both neighbours and waiting for both: the landing slots hops from `c` land in, in exchange for `c`'s own. -/
theorem meet (c n₁ n₂ : Dev nD) (hn₁ : n₁ = up 0 c) (hn₂ : n₂ = up 1 c) {α : Type} {Q : α → sProp 𝕄} {k : PUnit → Prog (TpuEff nD τ sig (Elt F) Λ₀ .tc) α} :
    iprop(recs m K ∗ barPlan c ∗ barPay (F := F) (up 0 c) 0 ∗ barPay (F := F) (up 1 c) 1 ∗ Owe c (debt₀ c))
      ⊢ iprop(((barPay (F := F) c 0 ∗ barPay (F := F) c 1 ∗ semVal (barCell c) 0 ∗ Owe c (debt c 0)) -∗ runs c (k ⟨⟩) Q)
          -∗ runs c (.op (.semSignal (n₁ : Thread nD τ) barS 1) fun _ => .op (.semSignal (n₂ : Thread nD τ) barS 1) fun _ => .op (.semWait barS 2) k) Q) := by
  subst hn₁ hn₂
  unfold barPlan Owe
  iintro ⟨#Hr, ⟨Hat, Hc, Ht0, Ht1⟩, Hp0, Hp1, ⟨%W, Ho⟩⟩ Hk
  unfold debt₀
  iapply (Rounds.wp_signal 𝒱₀ ER (sched m) (c : Thread nD τ) none (dst := (up 0 c : Thread nD τ)) (κ := K (up 0 c, .inl ()))
      (d := 0) (by rw [duties_bar]; exact Finset.mem_univ _) (amount_bar m (up 0 c) 0) () (debt₁ c) rfl)
    $$ [Ho Ht0 Hp0]
  · isplitr; · iapply (recs_inv m K (up 0 c, .inl ())); iexact Hr
    isplitl [Ho]; · iexact Ho
    isplitl [Ht0]; · iexact Ht0
    isplitl [Hp0]; · rw [payload_bar]; iexact Hp0
    iapply (recs_reached m K (up 0 c, .inl ())); iexact Hr
  iintro Ho
  unfold debt₁
  iapply (Rounds.wp_signal 𝒱₀ ER (sched m) (c : Thread nD τ) none (dst := (up 1 c : Thread nD τ)) (κ := K (up 1 c, .inl ()))
      (d := 1) (by rw [duties_bar]; exact Finset.mem_univ _) (amount_bar m (up 1 c) 1) () (debt c 0) rfl)
    $$ [Ho Ht1 Hp1]
  · isplitr; · iapply (recs_inv m K (up 1 c, .inl ())); iexact Hr
    isplitl [Ho]; · iexact Ho
    isplitl [Ht1]; · iexact Ht1
    isplitl [Hp1]; · rw [payload_bar]; iexact Hp1
    iapply (recs_reached m K (up 1 c, .inl ())); iexact Hr
  iintro Ho
  iapply (Rounds.wp_wait_rest_token 𝒱₀ ER (sched m) (c : Thread nD τ) none (κ := K (c, .inl ()))
      (wpE_semWait_eq 𝒱₀ (c : Thread nD τ) none Set.univ) (Set.mem_univ _) () (O := debt c 0) (W := W) (R := 0) (m := 0) (T := ∅)
      (by rw [expect_bar])) $$ [Hc Ho Hat]
  · isplitr; · iapply (recs_inv m K (c, .inl ())); iexact Hr
    isplitl [Hc]; · iexact Hc
    isplitl [Ho]; · iexact Ho
    isplitr
    · iapply (mayWait_debt (F := F) c (.reg barS) 0 1 (by dsimp only [lv]; rw [cellAt_bar]) (fun _ _ => by omega))
      iapply (recs_lev m K); iexact Hr
    iexact Hat
  iintro ⟨Ho, Hat, -, Hp⟩
  ihave Hp := (Entails.of_eq (rest_bar m c)) $$ Hp
  icases Hp with ⟨Hp0, Hp1⟩
  imod (Rounds.cell_close ER (sched m) (Set.mem_univ (K (c, .inl ()))) (fun h => h) (R := 0 + 1) (duties_later m (barCell c))) $$ [Hat] with Hz
  · isplitr; · iapply (recs_inv m K (c, .inl ())); iexact Hr
    iexact Hat
  iapply Hk
  isplitl [Hp0]; · iexact Hp0
  isplitl [Hp1]; · iexact Hp1
  isplitl [Hz]; · iexact Hz
  iexists _; iexact Ho

/-! ## The values the body computes with -/

/-- The block sent first is the partial product, narrowed. -/
theorem pay1_eq (v : Vec F S1x256x2048 .f32) (A : Vec F S2048x4096 .bf16) (B : Vec F S4096x2048 .bf16) (X : BlkF F) (hc : S1x256x2048.ShapeCasts S256x2048)
    (h : shapeCast S256x2048 v hc = X) : shapeCast S256x2048 (k0_pay1 v A B) hc = truncf .bf16 (mlp X A B) bitsLt_bf16_f32 := by
  subst h; exact shapeCast_shapeCast _ _ _
/-- The block sent first is the partial product, narrowed. -/
theorem pay2_eq (v : Vec F S1x256x2048 .f32) (A : Vec F S2048x4096 .bf16) (B : Vec F S4096x2048 .bf16) (X : BlkF F) (hc : S1x256x2048.ShapeCasts S256x2048)
    (h : shapeCast S256x2048 v hc = X) : shapeCast S256x2048 (k0_pay2 v A B) hc = truncf .bf16 (mlp X A B) bitsLt_bf16_f32 := by
  subst h; exact shapeCast_shapeCast _ _ _
/-- The block computed is the partial product of the rows read. -/
theorem pay3_eq (v : Vec F S1x256x2048 .f32) (A : Vec F S2048x4096 .bf16) (B : Vec F S4096x2048 .bf16) (X : BlkF F) (hc : S1x256x2048.ShapeCasts S256x2048)
    (h : shapeCast S256x2048 v hc = X) : k0_pay3 v A B = mlp X A B := by subst h; rfl
/-- The block computed is the partial product of the rows read. -/
theorem pay4_eq (v : Vec F S1x256x2048 .f32) (A : Vec F S2048x4096 .bf16) (B : Vec F S4096x2048 .bf16) (X : BlkF F) (hc : S1x256x2048.ShapeCasts S256x2048)
    (h : shapeCast S256x2048 v hc = X) : k0_pay4 v A B = mlp X A B := by subst h; rfl
/-- The block computed is the partial product of the rows read. -/
theorem pay7_eq (v : Vec F S1x256x2048 .f32) (A : Vec F S2048x4096 .bf16) (B : Vec F S4096x2048 .bf16) (X : BlkF F) (hc : S1x256x2048.ShapeCasts S256x2048)
    (h : shapeCast S256x2048 v hc = X) : k0_pay7 v A B = mlp X A B := by subst h; rfl
/-- The block computed is the partial product of the rows read. -/
theorem pay8_eq (v : Vec F S1x256x2048 .f32) (A : Vec F S2048x4096 .bf16) (B : Vec F S4096x2048 .bf16) (X : BlkF F) (hc : S1x256x2048.ShapeCasts S256x2048)
    (h : shapeCast S256x2048 v hc = X) : k0_pay8 v A B = mlp X A B := by subst h; rfl
/-- The block computed is the partial product of the rows read. -/
theorem pay11_eq (v : Vec F S1x256x2048 .f32) (A : Vec F S2048x4096 .bf16) (B : Vec F S4096x2048 .bf16) (X : BlkF F) (hc : S1x256x2048.ShapeCasts S256x2048)
    (h : shapeCast S256x2048 v hc = X) : k0_pay11 v A B = mlp X A B := by subst h; rfl

/-- The hidden layer of a block of rows. -/
def hid (X : BlkF F) (A : FVec F S2048x4096 .bf16) : FVec F S256x4096 .bf16 :=
  truncf .bf16
    (maximumf
      (matmul dot_S256x2048_S2048x4096_S256x4096_1_0_0_1_n_n none (truncf .bf16 X bitsLt_bf16_f32)
        (shapeCast S2048x4096 A shapeCasts_S2048x4096_S2048x4096) (constant S256x4096 .f32 0x00000000#32))
      (broadcast S256x4096 (Scalar.ofBits .f32 0x00000000#32)))
    bitsLt_bf16_f32
/-- The first layer computed is the hidden layer of the rows read. -/
theorem pay12_eq (v : Vec F S1x256x2048 .f32) (A : Vec F S2048x4096 .bf16) (X : BlkF F) (hc : S1x256x2048.ShapeCasts S256x2048)
    (h : shapeCast S256x2048 v hc = X) : k0_pay12 v A = hid X A := by subst h; rfl
/-- The second layer of that hidden layer is the partial product. -/
theorem pay13_eq (X : BlkF F) (A : Vec F S2048x4096 .bf16) (B : Vec F S4096x2048 .bf16) : k0_pay13 (hid X A) B = mlp X A B := rfl

/-- What is stored is the block received plus the partial product. -/
theorem pay5_eq (p : BlkF F) (v : Vec F S1x1x256x2048 .bf16) (T : Blk F) (hc : S1x1x256x2048.ShapeCasts S256x2048)
    (h : shapeCast S256x2048 v hc = T) : shapeCast S256x2048 (k0_pay5 p v) hc = acc T p := by
  subst h; exact shapeCast_shapeCast _ _ _
/-- What is stored is the block received plus the partial product. -/
theorem pay6_eq (p : BlkF F) (v : Vec F S1x1x256x2048 .bf16) (T : Blk F) (hc : S1x1x256x2048.ShapeCasts S256x2048)
    (h : shapeCast S256x2048 v hc = T) : shapeCast S256x2048 (k0_pay6 p v) hc = acc T p := by
  subst h; exact shapeCast_shapeCast _ _ _
/-- What is stored is the block received plus the partial product. -/
theorem pay9_eq (p : BlkF F) (v : Vec F S1x1x256x2048 .bf16) (T : Blk F) (hc : S1x1x256x2048.ShapeCasts S256x2048)
    (h : shapeCast S256x2048 v hc = T) : shapeCast S256x2048 (k0_pay9 p v) hc = acc T p := by
  subst h; exact shapeCast_shapeCast _ _ _
/-- What is stored is the block received plus the partial product. -/
theorem pay10_eq (p : BlkF F) (v : Vec F S1x1x256x2048 .bf16) (T : Blk F) (hc : S1x1x256x2048.ShapeCasts S256x2048)
    (h : shapeCast S256x2048 v hc = T) : shapeCast S256x2048 (k0_pay10 p v) hc = acc T p := by
  subst h; exact shapeCast_shapeCast _ _ _
/-- What is stored is the block received plus the partial product. -/
theorem pay14_eq (p : BlkF F) (v : Vec F S1x1x256x2048 .bf16) (T : Blk F) (hc : S1x1x256x2048.ShapeCasts S256x2048)
    (h : shapeCast S256x2048 v hc = T) : shapeCast S256x2048 (k0_pay14 p v) hc = acc T p := by
  subst h; exact shapeCast_shapeCast _ _ _
/-- What is stored is the block received plus the partial product. -/
theorem pay15_eq (p : BlkF F) (v : Vec F S1x1x256x2048 .bf16) (T : Blk F) (hc : S1x1x256x2048.ShapeCasts S256x2048)
    (h : shapeCast S256x2048 v hc = T) : k0_pay15 p v = acc T p := by subst h; rfl
/-- What is stored is the block itself. -/
theorem pay16_eq (T : Blk F) (hc : S1x1x256x2048.ShapeCasts S256x2048) : shapeCast S256x2048 (k0_pay16 T) hc = T := shapeCast_shapeCast _ _ _

/-! ## The offsets and the devices of the program -/

/-- The first rows of direction 0 that a device reads are those of its own chunk. -/
theorem off1_0 (c : Dev nD) : k0_off1 c 0#32 = ![512 * c.val + 256 * (0 : Fin 2).val, 0] := by revert c; decide
/-- The first rows of direction 1 that a device reads are those of its own chunk. -/
theorem off1_1 (c : Dev nD) : k0_off1 c 256#32 = ![512 * c.val + 256 * (1 : Fin 2).val, 0] := by revert c; decide
/-- The rows of direction 0 read for the sum of step 0. -/
theorem off2_7 (c : Dev nD) : k0_off2 c 7#32 0#32 = ![512 * (chunk 0 0 c).val + 256 * (0 : Fin 2).val, 0] := by revert c; decide
/-- The rows of direction 0 read for the sum of step 1. -/
theorem off2_6 (c : Dev nD) : k0_off2 c 6#32 0#32 = ![512 * (chunk 0 1 c).val + 256 * (0 : Fin 2).val, 0] := by revert c; decide
/-- The rows of direction 0 read for the sum of step 2. -/
theorem off2_5 (c : Dev nD) : k0_off2 c 5#32 0#32 = ![512 * (chunk 0 2 c).val + 256 * (0 : Fin 2).val, 0] := by revert c; decide
/-- The rows of direction 1 read for the sum of step 0. -/
theorem off3_0 (c : Dev nD) : k0_off3 c 0#32 = ![512 * (chunk 1 0 c).val + 256 * (1 : Fin 2).val, 0] := by revert c; decide
/-- The rows of direction 1 read for the sum of step 1. -/
theorem off3_1 (c : Dev nD) : k0_off3 c 1#32 = ![512 * (chunk 1 1 c).val + 256 * (1 : Fin 2).val, 0] := by revert c; decide
/-- The rows of direction 1 read for the sum of step 2. -/
theorem off3_2 (c : Dev nD) : k0_off3 c 2#32 = ![512 * (chunk 1 2 c).val + 256 * (1 : Fin 2).val, 0] := by revert c; decide
/-- The rows of the result that copy 0 of direction 0 writes. -/
theorem out_0_0 (c : Dev nD) : k0_off2 c 1#32 0#32 = ![512 * (outChunk 0 0 c).val + 256 * (0 : Fin 2).val, 0] := by revert c; decide
/-- The rows of the result that copy 0 of direction 1 writes. -/
theorem out_1_0 (c : Dev nD) : k0_off4 c 1#32 256#32 = ![512 * (outChunk 1 0 c).val + 256 * (1 : Fin 2).val, 0] := by revert c; decide
/-- The rows of the result that copy 1 of direction 0 writes. -/
theorem out_0_1 (c : Dev nD) : k0_off4 c 0#32 0#32 = ![512 * (outChunk 0 1 c).val + 256 * (0 : Fin 2).val, 0] := by revert c; decide
/-- The rows of the result that copy 1 of direction 1 writes. -/
theorem out_1_1 (c : Dev nD) : k0_off2 c 0#32 256#32 = ![512 * (outChunk 1 1 c).val + 256 * (1 : Fin 2).val, 0] := by revert c; decide
/-- The rows of the result that copy 2 of direction 0 writes. -/
theorem out_0_2 (c : Dev nD) : k0_off4 c 1#32 0#32 = ![512 * (outChunk 0 2 c).val + 256 * (0 : Fin 2).val, 0] := by revert c; decide
/-- The rows of the result that copy 2 of direction 1 writes. -/
theorem out_1_2 (c : Dev nD) : k0_off2 c 1#32 256#32 = ![512 * (outChunk 1 2 c).val + 256 * (1 : Fin 2).val, 0] := by revert c; decide
/-- The rows of the result that copy 3 of direction 0 writes. -/
theorem out_0_3 (c : Dev nD) : k0_off4 c 2#32 0#32 = ![512 * (outChunk 0 3 c).val + 256 * (0 : Fin 2).val, 0] := by revert c; decide
/-- The rows of the result that copy 3 of direction 1 writes. -/
theorem out_1_3 (c : Dev nD) : k0_off2 c 2#32 256#32 = ![512 * (outChunk 1 3 c).val + 256 * (1 : Fin 2).val, 0] := by revert c; decide

/-- The device signalled for direction 0 is the one above in that direction. -/
theorem dev1_eq (c : Dev nD) : (⟨k0_dev1 c, k0_dev1_lt c⟩ : Dev nD) = up 0 c := Fin.ext (k0_dev1_eq c)
/-- The device signalled for direction 1 is the one above in that direction. -/
theorem dev2_eq (c : Dev nD) : (⟨k0_dev2 c, k0_dev2_lt c⟩ : Dev nD) = up 1 c := Fin.ext (k0_dev2_eq c)
/-- The device sent to in direction 0 is the one below in that direction. -/
theorem dev3_eq (c : Dev nD) : (⟨k0_dev3 c, k0_dev3_lt c⟩ : Dev nD) = dn 0 c := Fin.ext (k0_dev3_eq c)
/-- The device sent to in direction 1 is the one below in that direction. -/
theorem dev4_eq (c : Dev nD) : (⟨k0_dev4 c, k0_dev4_lt c⟩ : Dev nD) = dn 1 c := Fin.ext (k0_dev4_eq c)
/-- The device sent to in direction 0 is the one below in that direction. -/
theorem dev5_eq (c : Dev nD) : (⟨k0_dev5 c, k0_dev5_lt c⟩ : Dev nD) = dn 0 c := Fin.ext (k0_dev5_eq c)
/-- The device sent to in direction 1 is the one below in that direction. -/
theorem dev6_eq (c : Dev nD) : (⟨k0_dev6 c, k0_dev6_lt c⟩ : Dev nD) = dn 1 c := Fin.ext (k0_dev6_eq c)
/-- The device sent to in direction 0 is the one below in that direction. -/
theorem dev7_eq (c : Dev nD) : (⟨k0_dev7 c, k0_dev7_lt c⟩ : Dev nD) = dn 0 c := Fin.ext (k0_dev7_eq c)
/-- The device sent to in direction 1 is the one below in that direction. -/
theorem dev8_eq (c : Dev nD) : (⟨k0_dev8 c, k0_dev8_lt c⟩ : Dev nD) = dn 1 c := Fin.ext (k0_dev8_eq c)
/-- The device sent to in direction 0 is the one below in that direction. -/
theorem dev9_eq (c : Dev nD) : (⟨k0_dev9 c, k0_dev9_lt c⟩ : Dev nD) = dn 0 c := Fin.ext (k0_dev9_eq c)
/-- The device sent to in direction 1 is the one below in that direction. -/
theorem dev10_eq (c : Dev nD) : (⟨k0_dev10 c, k0_dev10_lt c⟩ : Dev nD) = dn 1 c := Fin.ext (k0_dev10_eq c)
/-- The device sent to in direction 0 is the one below in that direction. -/
theorem dev11_eq (c : Dev nD) : (⟨k0_dev11 c, k0_dev11_lt c⟩ : Dev nD) = dn 0 c := Fin.ext (k0_dev11_eq c)
/-- The device sent to in direction 1 is the one below in that direction. -/
theorem dev12_eq (c : Dev nD) : (⟨k0_dev12 c, k0_dev12_lt c⟩ : Dev nD) = dn 1 c := Fin.ext (k0_dev12_eq c)
/-- The device sent to in direction 0 is the one below in that direction. -/
theorem dev13_eq (c : Dev nD) : (⟨k0_dev13 c, k0_dev13_lt c⟩ : Dev nD) = dn 0 c := Fin.ext (k0_dev13_eq c)
/-- The device sent to in direction 1 is the one below in that direction. -/
theorem dev14_eq (c : Dev nD) : (⟨k0_dev14 c, k0_dev14_lt c⟩ : Dev nD) = dn 1 c := Fin.ext (k0_dev14_eq c)

end Cert.TwoWay

end
-- ==== Proof.Bufs.lean ====
/-
# Buffers cut into slots

A landing or staging buffer is cut into its slots and joined again, whatever it holds; the result is cut into its eight blocks of
256 rows and joined again at contents that agree with each block.
-/
module

public import proofs.«01_k».proof.Proof.Steps

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## One buffer, any cut -/

section Cut

variable {ι : Type} [Fintype ι] [DecidableEq ι] (c : Dev nD) (b : Ref sig .tc) (I : ι → Finset (Idx ((c : Thread nD τ).loc b)))
  (hd : ∀ i j, i ≠ j → Disjoint (I i) (I j)) (hc : Finset.univ.biUnion I = Finset.univ)

include hd hc in
/-- A buffer held whole gives its slots. -/
theorem cut_open (Φ : ι → sProp 𝕄) (h : ∀ i f, (((c : Thread nD τ).loc b) ↦[I i]{fullShare} f : sProp 𝕄) ⊢ Φ i) :
    (iprop(∃ f : Buf (Elt F) ((c : Thread nD τ).loc b), ((c : Thread nD τ).loc b) ↦{fullShare} f) : sProp 𝕄) ⊢ bigSep Finset.univ Φ := by
  iintro ⟨%f, H⟩
  iapply ((Entails.of_eq (Ring.pointsTo_blocks (ℓ := (c : Thread nD τ).loc b) I hd hc f)).trans (bigSep_mono fun i _ => h i f))
  iexact H

include hd hc in
/-- The slots give the buffer back. -/
theorem cut_close (Φ : ι → sProp 𝕄) (f₀ : Buf (Elt F) ((c : Thread nD τ).loc b))
    (h : ∀ i, Φ i ⊢ (iprop(∃ f, ((c : Thread nD τ).loc b) ↦[I i]{fullShare} f) : sProp 𝕄)) :
    bigSep Finset.univ Φ ⊢ (iprop(∃ f : Buf (Elt F) ((c : Thread nD τ).loc b), ((c : Thread nD τ).loc b) ↦{fullShare} f) : sProp 𝕄) :=
  (bigSep_mono fun i _ => h i).trans (Ring.pointsTo_blocks_join_exists (ℓ := (c : Thread nD τ).loc b) I hd hc f₀)

include hd hc in
/-- The slots at known contents give the buffer back at contents that agree with each. -/
theorem cut_close_at (P : ι → Buf (Elt F) ((c : Thread nD τ).loc b) → Prop) (f₀ : Buf (Elt F) ((c : Thread nD τ).loc b)) (Φ : ι → sProp 𝕄)
    (hP : ∀ i f g, (∀ x ∈ I i, g x = f x) → P i f → P i g)
    (h : ∀ i, Φ i ⊢ (iprop(∃ f, ⌜P i f⌝ ∗ ((c : Thread nD τ).loc b) ↦[I i]{fullShare} f) : sProp 𝕄)) :
    bigSep Finset.univ Φ ⊢ (iprop(∃ g : Buf (Elt F) ((c : Thread nD τ).loc b), ⌜∀ i, P i g⌝ ∗ ((c : Thread nD τ).loc b) ↦{fullShare} g) : sProp 𝕄) := by
  have : Nonempty (Buf (Elt F) ((c : Thread nD τ).loc b)) := ⟨f₀⟩
  refine (bigSep_mono fun i _ => h i).trans ?_
  refine (BI.bigSep_exists_pi Finset.univ (fun i (f : Buf (Elt F) ((c : Thread nD τ).loc b)) => (iprop(⌜P i f⌝ ∗ ((c : Thread nD τ).loc b) ↦[I i]{fullShare} f) : sProp 𝕄))).trans ?_
  iintro ⟨%fs, H⟩
  ihave H := (bigSep_pure_sep Finset.univ (fun i => P i (fs i)) fun i => (((c : Thread nD τ).loc b) ↦[I i]{fullShare} fs i : sProp 𝕄)) $$ H
  icases H with ⟨%hp, H⟩
  ihave H := (pointsTo_biUnion_join (ℓ := (c : Thread nD τ).loc b) Finset.univ I fs f₀ (fun i _ j _ h => hd i j h)) $$ H
  icases H with ⟨%g, %hg, H⟩
  iexists g
  isplitr
  · ipureintro; exact fun i => hP i (fs i) g (hg i (Finset.mem_univ i)) (hp i (Finset.mem_univ i))
  rw [hc]; iexact H

end Cut

/-! ## The rectangles -/

/-- An index lies in slot `(d, k)` of a six-slot buffer exactly when its first two coordinates are `d` and `k`. -/
theorem mem_r4 (x : Fin 2 × Fin 3) (i : S2x3x256x2048.Idx) : i ∈ (r4 x.1 x.2).set ↔ (i 0).val = x.1.val ∧ (i 1).val = x.2.val := by
  rw [Rect.mem_set_unit]
  constructor
  · intro h
    have h0 := h 0; have h1 := h 1
    simp [Shape.size, S1x1x256x2048] at h0 h1
    omega
  · rintro ⟨h0, h1⟩ a
    have := (i a).isLt
    fin_cases a <;> simp [Shape.size, S1x1x256x2048, S2x3x256x2048] at * <;> omega

/-- An index lies in half `d` of a two-slot buffer exactly when its first coordinate is `d`. -/
theorem mem_r3 (d : Fin 2) (i : S2x256x2048.Idx) : i ∈ (r3 d).set ↔ (i 0).val = d.val := by
  rw [Rect.mem_set_unit]
  constructor
  · intro h
    have h0 := h 0
    simp [Shape.size, S1x256x2048] at h0
    omega
  · rintro h0 a
    have := (i a).isLt
    fin_cases a <;> simp [Shape.size, S1x256x2048, S2x256x2048] at * <;> omega

/-- An index lies in half `d` of row chunk `k` exactly when its row is among those 256 rows. -/
theorem mem_r2 (k : Fin 4) (d : Fin 2) (i : S2048x2048.Idx) :
    i ∈ (r2 k d).set ↔ (i 0).val / 512 = k.val ∧ (i 0).val % 512 / 256 = d.val := by
  rw [Rect.mem_set_unit]
  constructor
  · intro h
    have h0 := h 0
    simp [Shape.size, S256x2048] at h0
    omega
  · rintro ⟨h0, h1⟩ a
    have := (i a).isLt
    fin_cases a <;> simp [Shape.size, S256x2048, S2048x2048] at * <;> omega

/-! ## Families written out -/

/-- A family over the directions, -/
theorem sep_two (Φ : Fin 2 → sProp 𝕄) : bigSep Finset.univ Φ = iprop(Φ 0 ∗ Φ 1) := by
  rw [bigSep_univ_eq_bigSepL [0, 1] (by decide) (by decide)]; rfl

/-- over the slots of a buffer, -/
theorem sep_six (Φ : Fin 2 × Fin 3 → sProp 𝕄) : bigSep Finset.univ Φ = iprop(Φ (0, 0) ∗ Φ (0, 1) ∗ Φ (0, 2) ∗ Φ (1, 0) ∗ Φ (1, 1) ∗ Φ (1, 2)) := by
  rw [bigSep_univ_eq_bigSepL [(0, 0), (0, 1), (0, 2), (1, 0), (1, 1), (1, 2)] (by decide) (by decide)]; rfl

/-- over the blocks of the result, -/
theorem sep_eight (Φ : Fin 2 × Fin 4 → sProp 𝕄) : bigSep Finset.univ Φ = iprop(Φ (0, 0) ∗ Φ (0, 1) ∗ Φ (0, 2) ∗ Φ (0, 3) ∗ Φ (1, 0) ∗ Φ (1, 1) ∗ Φ (1, 2) ∗ Φ (1, 3)) := by
  rw [bigSep_univ_eq_bigSepL [(0, 0), (0, 1), (0, 2), (0, 3), (1, 0), (1, 1), (1, 2), (1, 3)] (by decide) (by decide)]; rfl

/-- over the steps, -/
theorem sep_steps (Φ : Fin 6 → sProp 𝕄) : bigSep Finset.univ Φ = iprop(Φ 0 ∗ Φ 1 ∗ Φ 2 ∗ Φ 3 ∗ Φ 4 ∗ Φ 5) := by
  rw [bigSep_univ_eq_bigSepL [0, 1, 2, 3, 4, 5] (by decide) (by decide)]; rfl

/-- over the hops. -/
theorem sep_hops (Φ : Hop → sProp 𝕄) : bigSep Finset.univ Φ = iprop(Φ (0, 0) ∗ Φ (0, 1) ∗ Φ (0, 2) ∗ Φ (0, 3) ∗ Φ (0, 4) ∗ Φ (0, 5) ∗ Φ (1, 0) ∗ Φ (1, 1) ∗ Φ (1, 2) ∗ Φ (1, 3) ∗ Φ (1, 4) ∗ Φ (1, 5)) := by
  rw [bigSep_univ_eq_bigSepL [(0, 0), (0, 1), (0, 2), (0, 3), (0, 4), (0, 5), (1, 0), (1, 1), (1, 2), (1, 3), (1, 4), (1, 5)] (by decide) (by decide)]; rfl

/-- Different slots of a six-slot buffer share no index. -/
theorem apart4 (x y : Fin 2 × Fin 3) (h : x ≠ y) : Disjoint (r4 x.1 x.2).set (r4 y.1 y.2).set :=
  Finset.disjoint_left.mpr fun i hi hj => h (by
    rw [mem_r4 x] at hi; rw [mem_r4 y] at hj
    exact Prod.ext (Fin.ext (hi.1.symm.trans hj.1)) (Fin.ext (hi.2.symm.trans hj.2)))
/-- The six slots make up the whole buffer. -/
theorem cover4 : (Finset.univ.biUnion fun x : Fin 2 × Fin 3 => (r4 x.1 x.2).set) = Finset.univ := by
  ext i
  simp only [Finset.mem_biUnion, Finset.mem_univ, true_and, iff_true]
  exact ⟨(⟨(i 0).val, (i 0).isLt⟩, ⟨(i 1).val, (i 1).isLt⟩), (mem_r4 _ i).mpr ⟨rfl, rfl⟩⟩
/-- The two halves of a two-slot buffer share no index. -/
theorem apart3 (x y : Fin 2) (h : x ≠ y) : Disjoint (r3 x).set (r3 y).set :=
  Finset.disjoint_left.mpr fun i hi hj => h (by
    rw [mem_r3 x] at hi; rw [mem_r3 y] at hj
    exact Fin.ext (hi.symm.trans hj))
/-- The two halves make up the whole buffer. -/
theorem cover3 : (Finset.univ.biUnion fun x : Fin 2 => (r3 x).set) = Finset.univ := by
  ext i
  simp only [Finset.mem_biUnion, Finset.mem_univ, true_and, iff_true]
  exact ⟨⟨(i 0).val, (i 0).isLt⟩, (mem_r3 _ i).mpr rfl⟩

/-- In one direction, a device's four copies into its result go to different row chunks. -/
theorem outChunk_injective (c : Dev nD) (d : Fin 2) : ∀ j j' : Fin 4, outChunk d j c = outChunk d j' c → j = j' := by
  revert c d; decide
/-- In one direction, a device's four copies into its result reach every row chunk. -/
theorem outChunk_surjective (c : Dev nD) (d : Fin 2) : ∀ k : Fin 4, ∃ j, outChunk d j c = k := by
  revert c d; decide

/-- The eight blocks a device writes into its result share no index. -/
theorem apart2 (c : Dev nD) (x y : Fin 2 × Fin 4) (h : x ≠ y) : Disjoint (r2 (outChunk x.1 x.2 c) x.1).set (r2 (outChunk y.1 y.2 c) y.1).set :=
  Finset.disjoint_left.mpr fun i hi hj => h (by
    obtain ⟨d, j⟩ := x; obtain ⟨d', j'⟩ := y
    have hi := (mem_r2 _ _ i).mp hi; have hj := (mem_r2 _ _ i).mp hj
    obtain rfl : d = d' := Fin.ext (hi.2.symm.trans hj.2)
    obtain rfl : j = j' := outChunk_injective c d _ _ (Fin.ext (hi.1.symm.trans hj.1))
    rfl)
/-- The eight blocks a device writes make up the whole result. -/
theorem cover2 (c : Dev nD) : (Finset.univ.biUnion fun x : Fin 2 × Fin 4 => (r2 (outChunk x.1 x.2 c) x.1).set) = Finset.univ := by
  ext i
  simp only [Finset.mem_biUnion, Finset.mem_univ, true_and, iff_true]
  have hi : (i 0).val < 2048 := (i 0).isLt
  obtain ⟨j, hj⟩ := outChunk_surjective c ⟨(i 0).val % 512 / 256, by omega⟩ ⟨(i 0).val / 512, by omega⟩
  exact ⟨(⟨(i 0).val % 512 / 256, by omega⟩, j), (mem_r2 _ _ i).mpr ⟨by rw [hj], rfl⟩⟩

/-! ## The buffers of a device -/

/-- What is held of a view's elements is the view, owned. -/
theorem some_intro (c : Dev nD) {sp : Space} {s : Shape} {e : EltTy} (M : Memref sig .tc sp s e) (I : Finset (Idx (M.view.loc (c : Thread nD τ))))
    (h : M.view.set = I) (f : Buf (Elt F) (M.view.loc (c : Thread nD τ))) : (M.view.loc (c : Thread nD τ) ↦[I]{fullShare} f : sProp 𝕄) ⊢ some_ c M := by
  subst h
  unfold some_
  iintro H; iexists (M.view.read (Elt F) f)
  iapply (owns_intro (c : Thread nD τ) M fullShare f); iexact H
/-- and back. -/
theorem some_elim (c : Dev nD) {sp : Space} {s : Shape} {e : EltTy} (M : Memref sig .tc sp s e) (I : Finset (Idx (M.view.loc (c : Thread nD τ))))
    (h : M.view.set = I) : (some_ c M : sProp 𝕄) ⊢ iprop(∃ f, M.view.loc (c : Thread nD τ) ↦[I]{fullShare} f) := by
  subst h
  unfold some_ owns
  iintro ⟨%T, ⟨%f, %hf, H⟩⟩; iexists f; iexact H

/-- A whole buffer of device `c`, at some contents. -/
def whole_ (c : Dev nD) (b : Ref sig .tc) : sProp 𝕄 := iprop(∃ f : Buf (Elt F) ((c : Thread nD τ).loc b), ((c : Thread nD τ).loc b) ↦{fullShare} f)

/-- A slot of the send-staging buffer covers the indices of its rectangle. -/
theorem stage_set (x : Fin 2 × Fin 3) : (slot stageB x.1 x.2).view.set = (r4 x.1 x.2).set := (View.set_reshape _ _).trans (View.set_slice_whole _ _)
/-- The whole send-staging buffer comes apart into its six slots. -/
theorem stage_open (c : Dev nD) : (whole_ c cc0_scratch2 : sProp 𝕄) ⊢ bigSep Finset.univ fun x : Fin 2 × Fin 3 => some_ c (slot stageB x.1 x.2) :=
  cut_open c cc0_scratch2 (fun x : Fin 2 × Fin 3 => (r4 x.1 x.2).set) apart4 cover4 _ fun x f => some_intro c (slot stageB x.1 x.2) _ (stage_set x) f
/-- The six slots of the send-staging buffer go back together into the whole. -/
theorem stage_close (c : Dev nD) : (bigSep Finset.univ fun x : Fin 2 × Fin 3 => some_ c (slot stageB x.1 x.2)) ⊢ (whole_ c cc0_scratch2 : sProp 𝕄) :=
  cut_close c cc0_scratch2 (fun x : Fin 2 × Fin 3 => (r4 x.1 x.2).set) apart4 cover4 _ default fun x => some_elim c (slot stageB x.1 x.2) _ (stage_set x)

/-- A landing slot of the reduce-scatter covers the indices of its rectangle. -/
theorem rs_set (x : Fin 2 × Fin 3) : (slot rsB x.1 x.2).view.set = (r4 x.1 x.2).set := (View.set_reshape _ _).trans (View.set_slice_whole _ _)
/-- The whole landing buffer of the reduce-scatter comes apart into its six slots. -/
theorem rs_open (c : Dev nD) : (whole_ c cc0_scratch3 : sProp 𝕄) ⊢ bigSep Finset.univ fun x : Fin 2 × Fin 3 => some_ c (slot rsB x.1 x.2) :=
  cut_open c cc0_scratch3 (fun x : Fin 2 × Fin 3 => (r4 x.1 x.2).set) apart4 cover4 _ fun x f => some_intro c (slot rsB x.1 x.2) _ (rs_set x) f
/-- The six landing slots of the reduce-scatter go back together into the whole. -/
theorem rs_close (c : Dev nD) : (bigSep Finset.univ fun x : Fin 2 × Fin 3 => some_ c (slot rsB x.1 x.2)) ⊢ (whole_ c cc0_scratch3 : sProp 𝕄) :=
  cut_close c cc0_scratch3 (fun x : Fin 2 × Fin 3 => (r4 x.1 x.2).set) apart4 cover4 _ default fun x => some_elim c (slot rsB x.1 x.2) _ (rs_set x)

/-- A landing slot of the all-gather covers the indices of its rectangle. -/
theorem ag_set (x : Fin 2 × Fin 3) : (slot agB x.1 x.2).view.set = (r4 x.1 x.2).set := (View.set_reshape _ _).trans (View.set_slice_whole _ _)
/-- The whole landing buffer of the all-gather comes apart into its six slots. -/
theorem ag_open (c : Dev nD) : (whole_ c cc0_scratch4 : sProp 𝕄) ⊢ bigSep Finset.univ fun x : Fin 2 × Fin 3 => some_ c (slot agB x.1 x.2) :=
  cut_open c cc0_scratch4 (fun x : Fin 2 × Fin 3 => (r4 x.1 x.2).set) apart4 cover4 _ fun x f => some_intro c (slot agB x.1 x.2) _ (ag_set x) f
/-- The six landing slots of the all-gather go back together into the whole. -/
theorem ag_close (c : Dev nD) : (bigSep Finset.univ fun x : Fin 2 × Fin 3 => some_ c (slot agB x.1 x.2)) ⊢ (whole_ c cc0_scratch4 : sProp 𝕄) :=
  cut_close c cc0_scratch4 (fun x : Fin 2 × Fin 3 => (r4 x.1 x.2).set) apart4 cover4 _ default fun x => some_elim c (slot agB x.1 x.2) _ (ag_set x)

/-- A half of the buffer for rows of `x` covers the indices of its rectangle. -/
theorem x_set (x : Fin 2) : (xM x).view.set = (r3 x).set := (View.set_reshape _ _).trans (View.set_slice_whole _ _)
/-- The whole buffer for rows of `x` comes apart into its two halves. -/
theorem x_open (c : Dev nD) : (whole_ c cc0_scratch0 : sProp 𝕄) ⊢ bigSep Finset.univ fun x : Fin 2 => some_ c (xM x) :=
  cut_open c cc0_scratch0 (fun x : Fin 2 => (r3 x).set) apart3 cover3 _ fun x f => some_intro c (xM x) _ (x_set x) f
/-- The two halves of the buffer for rows of `x` go back together into the whole. -/
theorem x_close (c : Dev nD) : (bigSep Finset.univ fun x : Fin 2 => some_ c (xM x)) ⊢ (whole_ c cc0_scratch0 : sProp 𝕄) :=
  cut_close c cc0_scratch0 (fun x : Fin 2 => (r3 x).set) apart3 cover3 _ default fun x => some_elim c (xM x) _ (x_set x)

/-- A half of the buffer of first blocks covers the indices of its rectangle. -/
theorem seed_set (x : Fin 2) : (seedM x).view.set = (r3 x).set := (View.set_reshape _ _).trans (View.set_slice_whole _ _)
/-- The whole buffer of first blocks comes apart into its two halves. -/
theorem seed_open (c : Dev nD) : (whole_ c cc0_scratch1 : sProp 𝕄) ⊢ bigSep Finset.univ fun x : Fin 2 => some_ c (seedM x) :=
  cut_open c cc0_scratch1 (fun x : Fin 2 => (r3 x).set) apart3 cover3 _ fun x f => some_intro c (seedM x) _ (seed_set x) f
/-- The two halves of the buffer of first blocks go back together into the whole. -/
theorem seed_close (c : Dev nD) : (bigSep Finset.univ fun x : Fin 2 => some_ c (seedM x)) ⊢ (whole_ c cc0_scratch1 : sProp 𝕄) :=
  cut_close c cc0_scratch1 (fun x : Fin 2 => (r3 x).set) apart3 cover3 _ default fun x => some_elim c (seedM x) _ (seed_set x)

/-- The landing buffers, as the slots hops from the two neighbours land in. -/
theorem land_open (c : Dev nD) : (iprop(whole_ c cc0_scratch3 ∗ whole_ c cc0_scratch4) : sProp 𝕄) ⊢ iprop(barPay (up 0 c) 0 ∗ barPay (up 1 c) 1) := by
  iintro ⟨Hr, Ha⟩
  ihave Hr := ((rs_open (F := F) c).trans (Entails.of_eq (sep_six _))) $$ Hr
  ihave Ha := ((ag_open (F := F) c).trans (Entails.of_eq (sep_six _))) $$ Ha
  icases Hr with ⟨Hr00, Hr01, Hr02, Hr10, Hr11, Hr12⟩
  icases Ha with ⟨Ha00, Ha01, Ha02, Ha10, Ha11, Ha12⟩
  unfold barPay
  rw [dn_up, dn_up, sep_steps, sep_steps]
  isplitl [Hr00 Hr01 Hr02 Ha00 Ha01 Ha02]
  · isplitl [Hr00]; · iexact Hr00
    isplitl [Hr01]; · iexact Hr01
    isplitl [Hr02]; · iexact Hr02
    isplitl [Ha00]; · iexact Ha00
    isplitl [Ha01]; · iexact Ha01
    iexact Ha02
  · isplitl [Hr10]; · iexact Hr10
    isplitl [Hr11]; · iexact Hr11
    isplitl [Hr12]; · iexact Hr12
    isplitl [Ha10]; · iexact Ha10
    isplitl [Ha11]; · iexact Ha11
    iexact Ha12

/-- Half `d` of row chunk `k` of the result covers the indices of its rectangle. -/
theorem outRows_set (k : Fin 4) (d : Fin 2) : (outRows k d).view.set = (r2 k d).set := View.set_slice_whole _ _
/-- The result, as its eight blocks, -/
theorem result_open (c : Dev nD) : (whole_ c main_v1 : sProp 𝕄) ⊢ bigSep Finset.univ fun x : Fin 2 × Fin 4 => some_ c (outRows (outChunk x.1 x.2 c) x.1) :=
  cut_open c main_v1 (fun x : Fin 2 × Fin 4 => (r2 (outChunk x.1 x.2 c) x.1).set) (apart2 c) (cover2 c) _
    fun x f => some_intro c (outRows (outChunk x.1 x.2 c) x.1) _ (outRows_set _ _) f

/-- The result holds, in each of its blocks, the sum that came around the ring. -/
def Pieces (c : Dev nD) (g : Buf (Elt F) ((c : Thread nD τ).loc main_v1)) : Prop :=
  ∀ x : Fin 2 × Fin 4, (outRows (outChunk x.1 x.2 c) x.1).view.read (Elt F) g = piece m x.1 x.2 c

/-- and whole again, with all of them written. -/
theorem result_close (c : Dev nD) :
    (bigSep Finset.univ fun x : Fin 2 × Fin 4 => owns (c : Thread nD τ) (outRows (outChunk x.1 x.2 c) x.1) fullShare (piece m x.1 x.2 c))
      ⊢ (iprop(∃ g : Buf (Elt F) ((c : Thread nD τ).loc main_v1), ⌜Pieces m c g⌝ ∗ ((c : Thread nD τ).loc main_v1) ↦{fullShare} g) : sProp 𝕄) :=
  cut_close_at c main_v1 (fun x : Fin 2 × Fin 4 => (r2 (outChunk x.1 x.2 c) x.1).set) (apart2 c) (cover2 c)
    (fun x g => (outRows (outChunk x.1 x.2 c) x.1).view.read (Elt F) g = piece m x.1 x.2 c) default _
    (fun x f g hfg hf => (View.read_congr fun i hi => hfg i (by rwa [outRows_set] at hi)).trans hf)
    fun x => by
      rw [← outRows_set]
      exact Entails.refl _

end Cert.TwoWay

end
-- ==== Proof.Reduce1.lean ====
/-
# The body, parts 1 to 5: the meeting, the seeds, the first step's products

One lemma per part, in continuation form: from what the part touches, what it leaves.
-/
module

public import proofs.«01_k».proof.Proof.Steps

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- The landing slots a device obtains from one neighbour, one by one. -/
theorem barPay_open (c : Dev nD) (d : Fin 2) : (barPay c d : sProp 𝕄)
    ⊢ iprop(some_ (dn d c) (landM (d, 0)) ∗ some_ (dn d c) (landM (d, 1)) ∗ some_ (dn d c) (landM (d, 2)) ∗ some_ (dn d c) (landM (d, 3))
      ∗ some_ (dn d c) (landM (d, 4)) ∗ some_ (dn d c) (landM (d, 5))) := by
  unfold barPay
  rw [bigSep_univ_eq_bigSepL [0, 1, 2, 3, 4, 5] (by decide) (by decide)]
  exact Entails.refl _

/-- Part 1: both neighbours met, and the first rows of `x` on their way. -/
theorem part_1 (c : Dev nD)  {α : Type} {Q : α → sProp 𝕄} {k : (Σ' (_ : Dev nD) (_ : BitVec 32) (_ : BitVec 32), BitVec 32) → Prog (TpuEff nD τ sig (Elt F) Λ₀ .tc) α} :
    iprop(recs m K
        ∗ barPlan (F := F) c
        ∗ barPay (F := F) (up 0 c) 0
        ∗ barPay (F := F) (up 1 c) 1
        ∗ Owe (F := F) c (debt₀ c)
        ∗ some_ (F := F) c (xM 0)
        ∗ xPts m c 0
        ∗ semVal ((c : Thread nD τ), .dma (xS 0)) 0)
      ⊢ iprop((∀ v2 : BitVec 32, ∀ v5 : BitVec 32, ∀ v7 : BitVec 32, ((some_ (F := F) (dn 0 c) (landM (0, 0))
          ∗ some_ (F := F) (dn 0 c) (landM (0, 1))
          ∗ some_ (F := F) (dn 0 c) (landM (0, 2))
          ∗ some_ (F := F) (dn 0 c) (landM (0, 3))
          ∗ some_ (F := F) (dn 0 c) (landM (0, 4))
          ∗ some_ (F := F) (dn 0 c) (landM (0, 5))
          ∗ some_ (F := F) (dn 1 c) (landM (1, 0))
          ∗ some_ (F := F) (dn 1 c) (landM (1, 1))
          ∗ some_ (F := F) (dn 1 c) (landM (1, 2))
          ∗ some_ (F := F) (dn 1 c) (landM (1, 3))
          ∗ some_ (F := F) (dn 1 c) (landM (1, 4))
          ∗ some_ (F := F) (dn 1 c) (landM (1, 5))
          ∗ semVal (barCell c) 0
          ∗ Owe (F := F) c (debt c 0)
          ∗ xFly m c c 0)
          -∗ runs c (k ⟨c, v2, v5, v7⟩) Q))
        -∗ runs c (k0_part1 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10  >>= k) Q) := by
  iintro ⟨#Hr, Hbar, Hla0, Hla1, HO, Hxm0, HX0, Hzx0⟩ Hk
  simp only [k0_part1_eq_skeleton]
  unfold k0_part1_skel
  simp only [semSignalWord, semWaitWord, Prog.lift, Prog.bind_op, Prog.bind_ret, Prog.pure_eq_ret, wp_deviceId]
  iapply (meet m K c _ _ (dev1_eq c) (dev2_eq c)) $$ [Hbar Hla0 Hla1 HO]
  · isplitr; · iexact Hr
    isplitl [Hbar]; · iexact Hbar
    isplitl [Hla0]; · iexact Hla0
    isplitl [Hla1]; · iexact Hla1
    iexact HO
  iintro ⟨HL0, HL1, Hzb, HO⟩
  ihave HL0 := (barPay_open (F := F) c 0) $$ HL0
  icases HL0 with ⟨HL00, HL01, HL02, HL03, HL04, HL05⟩
  ihave HL1 := (barPay_open (F := F) c 1) $$ HL1
  icases HL1 with ⟨HL10, HL11, HL12, HL13, HL14, HL15⟩
  iapply (x_start m c c 0 _ _ _ (xRows_of _ _ _ (off1_0 c) _) ?_ ?_) $$ [HX0 Hxm0 Hzx0]
  · rfl
  · rfl
  · isplitl [HX0]; · iexact HX0
    isplitl [Hxm0]; · iexact Hxm0
    iexact Hzx0
  iintro HXF0
  iapply Hk
  isplitl [HL00]; · iexact HL00
  isplitl [HL01]; · iexact HL01
  isplitl [HL02]; · iexact HL02
  isplitl [HL03]; · iexact HL03
  isplitl [HL04]; · iexact HL04
  isplitl [HL05]; · iexact HL05
  isplitl [HL10]; · iexact HL10
  isplitl [HL11]; · iexact HL11
  isplitl [HL12]; · iexact HL12
  isplitl [HL13]; · iexact HL13
  isplitl [HL14]; · iexact HL14
  isplitl [HL15]; · iexact HL15
  isplitl [Hzb]; · iexact Hzb
  isplitl [HO]; · iexact HO
  iexact HXF0

/-- Part 2: the lower half of them on its way; the upper seed block computed. -/
theorem part_2 (c : Dev nD) (v7 : BitVec 32) {α : Type} {Q : α → sProp 𝕄} {k : ((PUnit)) → Prog (TpuEff nD τ sig (Elt F) Λ₀ .tc) α} :
    iprop(recs m K
        ∗ some_ (F := F) c (xM 1)
        ∗ xPts m c 1
        ∗ semVal ((c : Thread nD τ), .dma (xS 1)) 0
        ∗ xFly m c c 0
        ∗ Owe (F := F) c (debt c 0)
        ∗ wAt (F := F) c cc0_stg0_0 (Wa m c)
        ∗ wAt (F := F) c cc0_stg1_0 (Wb m c)
        ∗ some_ (F := F) c (seedM 0))
      ⊢ iprop((((xFly m c c 1
          ∗ xPts m c 0
          ∗ owns (c : Thread nD τ) (xM 0) fullShare (Xb m c c 0)
          ∗ semVal ((c : Thread nD τ), .dma (xS 0)) 0
          ∗ Owe (F := F) c (debt c 0)
          ∗ wAt (F := F) c cc0_stg0_0 (Wa m c)
          ∗ wAt (F := F) c cc0_stg1_0 (Wb m c)
          ∗ owns (c : Thread nD τ) (seedM 0) fullShare (carry m (0, 0) c))
          -∗ runs c (k ⟨⟩) Q))
        -∗ runs c (k0_part2 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v7 >>= k) Q) := by
  iintro ⟨#Hr, Hxm1, HX1, Hzx1, HXF0, HO, HWA, HWB, Hsd0⟩ Hk
  simp only [k0_part2_eq_skeleton]
  unfold k0_part2_skel
  simp only [Prog.lift, Prog.bind_op, Prog.bind_ret, Prog.pure_eq_ret]
  iapply (x_start m c c 1 _ _ _ (xRows_of _ _ _ (off1_1 c) _) ?_ ?_) $$ [HX1 Hxm1 Hzx1]
  · rfl
  · rfl
  · isplitl [HX1]; · iexact HX1
    isplitl [Hxm1]; · iexact Hxm1
    iexact Hzx1
  iintro HXF1
  iapply (x_wait m K c c 0 0 _ _ _ ?_ ?_) $$ [HXF0 HO]
  · rfl
  · rfl
  · isplitr; · iexact Hr
    isplitl [HXF0]; · iexact HXF0
    iexact HO
  iintro ⟨HX0, Hxm0, Hzx0, HO⟩
  iapply (load_slot c xB (r3 0) (fun _ => rfl) squeezes_S1x256x2048_S256x2048 fullShare (Xb m c c 0) shapeCasts_S1x256x2048_S256x2048) $$ Hxm0
  iintro %v32 %ev32 Hxm0
  iapply (load_Wa c (Wa m c) _ off_zero _) $$ HWA
  iintro HWA
  iapply (load_Wb c (Wb m c) _ off_zero _) $$ HWB
  iintro HWB
  ihave Hsd0 := (some_open (F := F) c (seedM 0)) $$ Hsd0
  icases Hsd0 with ⟨%Tsd0, Hsd0⟩
  iapply (load_slot c seedB (r3 0) (fun _ => rfl) squeezes_S1x256x2048_S256x2048 fullShare Tsd0 shapeCasts_S1x256x2048_S256x2048) $$ Hsd0
  iintro %v45 %ev45 Hsd0
  iapply (store_slot c seedB (r3 0) (fun _ => rfl) squeezes_S1x256x2048_S256x2048 Tsd0 (carry m (0, 0) c) _ shapeCasts_S1x256x2048_S256x2048 (pay1_eq v32 (Wa m c) (Wb m c) _ _ ev32)) $$ Hsd0
  iintro Hsd0
  iapply Hk
  isplitl [HXF1]; · iexact HXF1
  isplitl [HX0]; · iexact HX0
  isplitl [Hxm0]; · iexact Hxm0
  isplitl [Hzx0]; · iexact Hzx0
  isplitl [HO]; · iexact HO
  isplitl [HWA]; · iexact HWA
  isplitl [HWB]; · iexact HWB
  iexact Hsd0

/-- Part 3: the upper seed sent; the lower seed block computed. -/
theorem part_3 (c : Dev nD) (v5 : BitVec 32) {α : Type} {Q : α → sProp 𝕄} {k : ((PUnit)) → Prog (TpuEff nD τ sig (Elt F) Λ₀ .tc) α} :
    iprop(recs m K
        ∗ plan (F := F) c (0, 0)
        ∗ owns (c : Thread nD τ) (seedM 0) fullShare (carry m (0, 0) c)
        ∗ some_ (F := F) (dn 0 c) (landM (0, 0))
        ∗ Owe (F := F) c (debt c 0)
        ∗ xFly m c c 1
        ∗ wAt (F := F) c cc0_stg0_0 (Wa m c)
        ∗ wAt (F := F) c cc0_stg1_0 (Wb m c)
        ∗ some_ (F := F) c (seedM 1))
      ⊢ iprop((((sent (F := F) c (0, 0)
          ∗ due (F := F) c (0, 0)
          ∗ xPts m c 1
          ∗ owns (c : Thread nD τ) (xM 1) fullShare (Xb m c c 1)
          ∗ semVal ((c : Thread nD τ), .dma (xS 1)) 0
          ∗ Owe (F := F) c (debt c 1)
          ∗ wAt (F := F) c cc0_stg0_0 (Wa m c)
          ∗ wAt (F := F) c cc0_stg1_0 (Wb m c)
          ∗ owns (c : Thread nD τ) (seedM 1) fullShare (carry m (1, 0) c))
          -∗ runs c (k ⟨⟩) Q))
        -∗ runs c (k0_part3 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v5 >>= k) Q) := by
  iintro ⟨#Hr, HP00, Hsd0, HL00, HO, HXF1, HWA, HWB, Hsd1⟩ Hk
  simp only [k0_part3_eq_skeleton]
  unfold k0_part3_skel
  simp only [Prog.lift, Prog.bind_op, Prog.bind_ret, Prog.pure_eq_ret]
  iapply (send_core m K c _ (0, 0) (dev3_eq c) _ _ _ _ ?_ ?_ ?_ ?_) $$ [HP00 Hsd0 HL00 HO]
  iterate 4 rfl
  · isplitr; · iexact Hr
    isplitl [HP00]; · iexact HP00
    isplitl [Hsd0]; · iexact Hsd0
    isplitl [HL00]; · iexact HL00
    iexact HO
  iintro ⟨HS00, HD00, HO⟩
  iapply (x_wait m K c c 1 1 _ _ _ ?_ ?_) $$ [HXF1 HO]
  · rfl
  · rfl
  · isplitr; · iexact Hr
    isplitl [HXF1]; · iexact HXF1
    iexact HO
  iintro ⟨HX1, Hxm1, Hzx1, HO⟩
  iapply (load_slot c xB (r3 1) (fun _ => rfl) squeezes_S1x256x2048_S256x2048 fullShare (Xb m c c 1) shapeCasts_S1x256x2048_S256x2048) $$ Hxm1
  iintro %v63 %ev63 Hxm1
  iapply (load_Wa c (Wa m c) _ off_zero _) $$ HWA
  iintro HWA
  iapply (load_Wb c (Wb m c) _ off_zero _) $$ HWB
  iintro HWB
  ihave Hsd1 := (some_open (F := F) c (seedM 1)) $$ Hsd1
  icases Hsd1 with ⟨%Tsd1, Hsd1⟩
  iapply (load_slot c seedB (r3 1) (fun _ => rfl) squeezes_S1x256x2048_S256x2048 fullShare Tsd1 shapeCasts_S1x256x2048_S256x2048) $$ Hsd1
  iintro %v76 %ev76 Hsd1
  iapply (store_slot c seedB (r3 1) (fun _ => rfl) squeezes_S1x256x2048_S256x2048 Tsd1 (carry m (1, 0) c) _ shapeCasts_S1x256x2048_S256x2048 (pay2_eq v63 (Wa m c) (Wb m c) _ _ ev63)) $$ Hsd1
  iintro Hsd1
  iapply Hk
  isplitl [HS00]; · iexact HS00
  isplitl [HD00]; · iexact HD00
  isplitl [HX1]; · iexact HX1
  isplitl [Hxm1]; · iexact Hxm1
  isplitl [Hzx1]; · iexact Hzx1
  isplitl [HO]; · iexact HO
  isplitl [HWA]; · iexact HWA
  isplitl [HWB]; · iexact HWB
  iexact Hsd1

/-- Part 4: the lower seed sent, and the rows of the first step on their way. -/
theorem part_4 (c : Dev nD) (v2 : BitVec 32) {α : Type} {Q : α → sProp 𝕄} {k : ((PUnit)) → Prog (TpuEff nD τ sig (Elt F) Λ₀ .tc) α} :
    iprop(recs m K
        ∗ plan (F := F) c (1, 0)
        ∗ owns (c : Thread nD τ) (seedM 1) fullShare (carry m (1, 0) c)
        ∗ some_ (F := F) (dn 1 c) (landM (1, 0))
        ∗ Owe (F := F) c (debt c 1)
        ∗ owns (c : Thread nD τ) (xM 0) fullShare (Xb m c c 0)
        ∗ xPts m c 0
        ∗ semVal ((c : Thread nD τ), .dma (xS 0)) 0
        ∗ owns (c : Thread nD τ) (xM 1) fullShare (Xb m c c 1)
        ∗ xPts m c 1
        ∗ semVal ((c : Thread nD τ), .dma (xS 1)) 0)
      ⊢ iprop((((sent (F := F) c (1, 0)
          ∗ due (F := F) c (1, 0)
          ∗ Owe (F := F) c (debt c 2)
          ∗ xFly m c (chunk 0 0 c) 0
          ∗ xFly m c (chunk 1 0 c) 1)
          -∗ runs c (k ⟨⟩) Q))
        -∗ runs c (k0_part4 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 >>= k) Q) := by
  iintro ⟨#Hr, HP10, Hsd1, HL10, HO, Hxm0, HX0, Hzx0, Hxm1, HX1, Hzx1⟩ Hk
  simp only [k0_part4_eq_skeleton]
  unfold k0_part4_skel
  simp only [Prog.lift, Prog.bind_op, Prog.bind_ret, Prog.pure_eq_ret]
  iapply (send_core m K c _ (1, 0) (dev4_eq c) _ _ _ _ ?_ ?_ ?_ ?_) $$ [HP10 Hsd1 HL10 HO]
  iterate 4 rfl
  · isplitr; · iexact Hr
    isplitl [HP10]; · iexact HP10
    isplitl [Hsd1]; · iexact Hsd1
    isplitl [HL10]; · iexact HL10
    iexact HO
  iintro ⟨HS10, HD10, HO⟩
  ihave Hxm0 := (owns_some (F := F) c (xM 0) _) $$ Hxm0
  iapply (x_start m c (chunk 0 0 c) 0 _ _ _ (xRows_of _ _ _ (off2_7 c) _) ?_ ?_) $$ [HX0 Hxm0 Hzx0]
  · rfl
  · rfl
  · isplitl [HX0]; · iexact HX0
    isplitl [Hxm0]; · iexact Hxm0
    iexact Hzx0
  iintro HXF0
  ihave Hxm1 := (owns_some (F := F) c (xM 1) _) $$ Hxm1
  iapply (x_start m c (chunk 1 0 c) 1 _ _ _ (xRows_of _ _ _ (off3_0 c) _) ?_ ?_) $$ [HX1 Hxm1 Hzx1]
  · rfl
  · rfl
  · isplitl [HX1]; · iexact HX1
    isplitl [Hxm1]; · iexact Hxm1
    iexact Hzx1
  iintro HXF1
  iapply Hk
  isplitl [HS10]; · iexact HS10
  isplitl [HD10]; · iexact HD10
  isplitl [HO]; · iexact HO
  isplitl [HXF0]; · iexact HXF0
  iexact HXF1

/-- Part 5: the first step's two partial products. -/
theorem part_5 (c : Dev nD)  {α : Type} {Q : α → sProp 𝕄} {k : ((Σ' (v124 : FVec F S256x2048 .f32), FVec F S256x2048 .f32)) → Prog (TpuEff nD τ sig (Elt F) Λ₀ .tc) α} :
    iprop(recs m K
        ∗ xFly m c (chunk 0 0 c) 0
        ∗ Owe (F := F) c (debt c 2)
        ∗ wAt (F := F) c cc0_stg0_0 (Wa m c)
        ∗ wAt (F := F) c cc0_stg1_0 (Wb m c)
        ∗ xFly m c (chunk 1 0 c) 1)
      ⊢ iprop((((xPts m c 0
          ∗ owns (c : Thread nD τ) (xM 0) fullShare (Xb m c (chunk 0 0 c) 0)
          ∗ semVal ((c : Thread nD τ), .dma (xS 0)) 0
          ∗ wAt (F := F) c cc0_stg0_0 (Wa m c)
          ∗ wAt (F := F) c cc0_stg1_0 (Wb m c)
          ∗ xPts m c 1
          ∗ owns (c : Thread nD τ) (xM 1) fullShare (Xb m c (chunk 1 0 c) 1)
          ∗ semVal ((c : Thread nD τ), .dma (xS 1)) 0
          ∗ Owe (F := F) c (debt c 2))
          -∗ runs c (k ⟨part m c (chunk 0 0 c) 0, part m c (chunk 1 0 c) 1⟩) Q))
        -∗ runs c (k0_part5 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c >>= k) Q) := by
  iintro ⟨#Hr, HXF0, HO, HWA, HWB, HXF1⟩ Hk
  simp only [k0_part5_eq_skeleton]
  unfold k0_part5_skel
  simp only [Prog.lift, Prog.bind_op, Prog.bind_ret, Prog.pure_eq_ret]
  iapply (x_wait m K c (chunk 0 0 c) 0 2 _ _ _ ?_ ?_) $$ [HXF0 HO]
  · rfl
  · rfl
  · isplitr; · iexact Hr
    isplitl [HXF0]; · iexact HXF0
    iexact HO
  iintro ⟨HX0, Hxm0, Hzx0, HO⟩
  iapply (load_slot c xB (r3 0) (fun _ => rfl) squeezes_S1x256x2048_S256x2048 fullShare (Xb m c (chunk 0 0 c) 0) shapeCasts_S1x256x2048_S256x2048) $$ Hxm0
  iintro %v113 %ev113 Hxm0
  iapply (load_Wa c (Wa m c) _ off_zero _) $$ HWA
  iintro HWA
  iapply (load_Wb c (Wb m c) _ off_zero _) $$ HWB
  iintro HWB
  iapply (x_wait m K c (chunk 1 0 c) 1 2 _ _ _ ?_ ?_) $$ [HXF1 HO]
  · rfl
  · rfl
  · isplitr; · iexact Hr
    isplitl [HXF1]; · iexact HXF1
    iexact HO
  iintro ⟨HX1, Hxm1, Hzx1, HO⟩
  iapply (load_slot c xB (r3 1) (fun _ => rfl) squeezes_S1x256x2048_S256x2048 fullShare (Xb m c (chunk 1 0 c) 1) shapeCasts_S1x256x2048_S256x2048) $$ Hxm1
  iintro %v130 %ev130 Hxm1
  iapply (load_Wa c (Wa m c) _ off_zero _) $$ HWA
  iintro HWA
  iapply (load_Wb c (Wb m c) _ off_zero _) $$ HWB
  iintro HWB
  beta_reduce
  rw [show k0_pay3 v113 (Wa m c) (Wb m c) = part m c (chunk 0 0 c) 0 from (pay3_eq v113 (Wa m c) (Wb m c) _ shapeCasts_S1x256x2048_S256x2048 ev113)]
  rw [show k0_pay4 v130 (Wa m c) (Wb m c) = part m c (chunk 1 0 c) 1 from (pay4_eq v130 (Wa m c) (Wb m c) _ shapeCasts_S1x256x2048_S256x2048 ev130)]
  iapply Hk
  isplitl [HX0]; · iexact HX0
  isplitl [Hxm0]; · iexact Hxm0
  isplitl [Hzx0]; · iexact Hzx0
  isplitl [HWA]; · iexact HWA
  isplitl [HWB]; · iexact HWB
  isplitl [HX1]; · iexact HX1
  isplitl [Hxm1]; · iexact Hxm1
  isplitl [Hzx1]; · iexact Hzx1
  iexact HO

end Cert.TwoWay

end
-- ==== Proof.Reduce2.lean ====
/-
# The body, parts 6 to 11: the second step

One lemma per part, in continuation form: from what the part touches, what it leaves.
-/
module

public import proofs.«01_k».proof.Proof.Steps

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- Part 6: the first hops waited for. -/
theorem part_6 (c : Dev nD) (v7 : BitVec 32) {α : Type} {Q : α → sProp 𝕄} {k : ((PUnit)) → Prog (TpuEff nD τ sig (Elt F) Λ₀ .tc) α} :
    iprop(recs m K
        ∗ sent (F := F) c (0, 0)
        ∗ Owe (F := F) c (debt c 2)
        ∗ due (F := F) c (0, 0)
        ∗ sent (F := F) c (1, 0))
      ⊢ iprop((((owns (c : Thread nD τ) (seedM 0) fullShare (carry m (0, 0) c)
          ∗ semVal (sndCell c (0, 0)) 0
          ∗ owns (c : Thread nD τ) (slot rsB 0 0) fullShare (carry m (0, 0) (up 0 c))
          ∗ semVal (rcvCell c (0, 0)) 0
          ∗ owns (c : Thread nD τ) (seedM 1) fullShare (carry m (1, 0) c)
          ∗ semVal (sndCell c (1, 0)) 0
          ∗ Owe (F := F) c (debt c 2))
          -∗ runs c (k ⟨⟩) Q))
        -∗ runs c (k0_part6 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v7 >>= k) Q) := by
  iintro ⟨#Hr, HS00, HO, HD00, HS10⟩ Hk
  simp only [k0_part6_eq_skeleton]
  unfold k0_part6_skel
  simp only [Prog.lift, Prog.bind_op, Prog.bind_ret, Prog.pure_eq_ret]
  iapply (wait_snd m K c (0, 0) 2 _ _ _ ?_ ?_) $$ [HS00 HO]
  · rfl
  · rfl
  · isplitr; · iexact Hr
    isplitl [HS00]; · iexact HS00
    iexact HO
  iintro ⟨Hsd0, Hzs00, HO⟩
  iapply (wait_rcv m K c (0, 0) 2 (by decide) _ _ _ ?_ ?_) $$ [HD00 HO]
  · rfl
  · rfl
  · isplitr; · iexact Hr
    isplitl [HD00]; · iexact HD00
    iexact HO
  iintro ⟨Hrs00, Hzr00, HO⟩
  ihave Hrs00 := (Entails.of_eq (show owns (c : Thread nD τ) (landM (0, 0)) fullShare (carry m (0, 0) (up 0 c)) = owns (c : Thread nD τ) (slot rsB 0 0) fullShare (carry m (0, 0) (up 0 c)) from rfl)) $$ Hrs00
  iapply (wait_snd m K c (1, 0) 2 _ _ _ ?_ ?_) $$ [HS10 HO]
  · rfl
  · rfl
  · isplitr; · iexact Hr
    isplitl [HS10]; · iexact HS10
    iexact HO
  iintro ⟨Hsd1, Hzs10, HO⟩
  iapply Hk
  isplitl [Hsd0]; · iexact Hsd0
  isplitl [Hzs00]; · iexact Hzs00
  isplitl [Hrs00]; · iexact Hrs00
  isplitl [Hzr00]; · iexact Hzr00
  isplitl [Hsd1]; · iexact Hsd1
  isplitl [Hzs10]; · iexact Hzs10
  iexact HO

/-- Part 7: the first blocks received added to, and staged. -/
theorem part_7 (c : Dev nD) (v5 : BitVec 32) {α : Type} {Q : α → sProp 𝕄} {k : ((PUnit)) → Prog (TpuEff nD τ sig (Elt F) Λ₀ .tc) α} :
    iprop(recs m K
        ∗ due (F := F) c (1, 0)
        ∗ Owe (F := F) c (debt c 2)
        ∗ owns (c : Thread nD τ) (slot rsB 0 0) fullShare (carry m (0, 0) (up 0 c))
        ∗ some_ (F := F) c (slot stageB 0 0)
        ∗ some_ (F := F) c (slot stageB 1 0))
      ⊢ iprop((((owns (c : Thread nD τ) (slot rsB 1 0) fullShare (carry m (1, 0) (up 1 c))
          ∗ semVal (rcvCell c (1, 0)) 0
          ∗ Owe (F := F) c (debt c 2)
          ∗ owns (c : Thread nD τ) (slot rsB 0 0) fullShare (carry m (0, 0) (up 0 c))
          ∗ owns (c : Thread nD τ) (slot stageB 0 0) fullShare (carry m (0, 1) c)
          ∗ owns (c : Thread nD τ) (slot stageB 1 0) fullShare (carry m (1, 1) c))
          -∗ runs c (k ⟨⟩) Q))
        -∗ runs c (k0_part7 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v5 (part m c (chunk 0 0 c) 0) (part m c (chunk 1 0 c) 1) >>= k) Q) := by
  iintro ⟨#Hr, HD10, HO, Hrs00, Hst00, Hst10⟩ Hk
  simp only [k0_part7_eq_skeleton]
  unfold k0_part7_skel
  simp only [Prog.lift, Prog.bind_op, Prog.bind_ret, Prog.pure_eq_ret]
  iapply (wait_rcv m K c (1, 0) 2 (by decide) _ _ _ ?_ ?_) $$ [HD10 HO]
  · rfl
  · rfl
  · isplitr; · iexact Hr
    isplitl [HD10]; · iexact HD10
    iexact HO
  iintro ⟨Hrs10, Hzr10, HO⟩
  ihave Hrs10 := (Entails.of_eq (show owns (c : Thread nD τ) (landM (1, 0)) fullShare (carry m (1, 0) (up 1 c)) = owns (c : Thread nD τ) (slot rsB 1 0) fullShare (carry m (1, 0) (up 1 c)) from rfl)) $$ Hrs10
  iapply (load_slot c rsB (r4 0 0) (fun _ => rfl) squeezes_S1x1x256x2048_S256x2048 fullShare (carry m (0, 0) (up 0 c)) shapeCasts_S1x1x256x2048_S256x2048) $$ Hrs00
  iintro %v170 %ev170 Hrs00
  iapply (load_slot c rsB (r4 1 0) (fun _ => rfl) squeezes_S1x1x256x2048_S256x2048 fullShare (carry m (1, 0) (up 1 c)) shapeCasts_S1x1x256x2048_S256x2048) $$ Hrs10
  iintro %v174 %ev174 Hrs10
  ihave Hst00 := (some_open (F := F) c (slot stageB 0 0)) $$ Hst00
  icases Hst00 with ⟨%Tst00, Hst00⟩
  iapply (load_slot c stageB (r4 0 0) (fun _ => rfl) squeezes_S1x1x256x2048_S256x2048 fullShare Tst00 shapeCasts_S1x1x256x2048_S256x2048) $$ Hst00
  iintro %v179 %ev179 Hst00
  iapply (store_slot c stageB (r4 0 0) (fun _ => rfl) squeezes_S1x1x256x2048_S256x2048 Tst00 (carry m (0, 1) c) _ shapeCasts_S1x1x256x2048_S256x2048 (pay5_eq (part m c (chunk 0 0 c) 0) v170 _ _ ev170)) $$ Hst00
  iintro Hst00
  ihave Hst10 := (some_open (F := F) c (slot stageB 1 0)) $$ Hst10
  icases Hst10 with ⟨%Tst10, Hst10⟩
  iapply (load_slot c stageB (r4 1 0) (fun _ => rfl) squeezes_S1x1x256x2048_S256x2048 fullShare Tst10 shapeCasts_S1x1x256x2048_S256x2048) $$ Hst10
  iintro %v183 %ev183 Hst10
  iapply (store_slot c stageB (r4 1 0) (fun _ => rfl) squeezes_S1x1x256x2048_S256x2048 Tst10 (carry m (1, 1) c) _ shapeCasts_S1x1x256x2048_S256x2048 (pay6_eq (part m c (chunk 1 0 c) 1) v174 _ _ ev174)) $$ Hst10
  iintro Hst10
  iapply Hk
  isplitl [Hrs10]; · iexact Hrs10
  isplitl [Hzr10]; · iexact Hzr10
  isplitl [HO]; · iexact HO
  isplitl [Hrs00]; · iexact Hrs00
  isplitl [Hst00]; · iexact Hst00
  iexact Hst10

/-- Part 8: sent on. -/
theorem part_8 (c : Dev nD) (v2 : BitVec 32) (v5 : BitVec 32) (v7 : BitVec 32) {α : Type} {Q : α → sProp 𝕄} {k : ((BitVec 32)) → Prog (TpuEff nD τ sig (Elt F) Λ₀ .tc) α} :
    iprop(recs m K
        ∗ plan (F := F) c (0, 1)
        ∗ owns (c : Thread nD τ) (slot stageB 0 0) fullShare (carry m (0, 1) c)
        ∗ some_ (F := F) (dn 0 c) (landM (0, 1))
        ∗ Owe (F := F) c (debt c 2)
        ∗ plan (F := F) c (1, 1)
        ∗ owns (c : Thread nD τ) (slot stageB 1 0) fullShare (carry m (1, 1) c)
        ∗ some_ (F := F) (dn 1 c) (landM (1, 1)))
      ⊢ iprop((∀ w : BitVec 32, ((sent (F := F) c (0, 1)
          ∗ due (F := F) c (0, 1)
          ∗ sent (F := F) c (1, 1)
          ∗ due (F := F) c (1, 1)
          ∗ Owe (F := F) c (debt c 4))
          -∗ runs c (k w) Q))
        -∗ runs c (k0_part8 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v5 v7 >>= k) Q) := by
  iintro ⟨#Hr, HP01, Hst00, HL01, HO, HP11, Hst10, HL11⟩ Hk
  simp only [k0_part8_eq_skeleton]
  unfold k0_part8_skel
  simp only [Prog.lift, Prog.bind_op, Prog.bind_ret, Prog.pure_eq_ret]
  iapply (send_core m K c _ (0, 1) (dev5_eq c) _ _ _ _ ?_ ?_ ?_ ?_) $$ [HP01 Hst00 HL01 HO]
  iterate 4 rfl
  · isplitr; · iexact Hr
    isplitl [HP01]; · iexact HP01
    isplitl [Hst00]; · iexact Hst00
    isplitl [HL01]; · iexact HL01
    iexact HO
  iintro ⟨HS01, HD01, HO⟩
  iapply (send_core m K c _ (1, 1) (dev6_eq c) _ _ _ _ ?_ ?_ ?_ ?_) $$ [HP11 Hst10 HL11 HO]
  iterate 4 rfl
  · isplitr; · iexact Hr
    isplitl [HP11]; · iexact HP11
    isplitl [Hst10]; · iexact Hst10
    isplitl [HL11]; · iexact HL11
    iexact HO
  iintro ⟨HS11, HD11, HO⟩
  iapply Hk
  isplitl [HS01]; · iexact HS01
  isplitl [HD01]; · iexact HD01
  isplitl [HS11]; · iexact HS11
  isplitl [HD11]; · iexact HD11
  iexact HO

/-- Part 9: the second step's rows fetched; the upper partial product. -/
theorem part_9 (c : Dev nD) (v210 : BitVec 32) {α : Type} {Q : α → sProp 𝕄} {k : ((FVec F S256x2048 .f32)) → Prog (TpuEff nD τ sig (Elt F) Λ₀ .tc) α} :
    iprop(recs m K
        ∗ owns (c : Thread nD τ) (xM 0) fullShare (Xb m c (chunk 0 0 c) 0)
        ∗ xPts m c 0
        ∗ semVal ((c : Thread nD τ), .dma (xS 0)) 0
        ∗ owns (c : Thread nD τ) (xM 1) fullShare (Xb m c (chunk 1 0 c) 1)
        ∗ xPts m c 1
        ∗ semVal ((c : Thread nD τ), .dma (xS 1)) 0
        ∗ Owe (F := F) c (debt c 4)
        ∗ wAt (F := F) c cc0_stg0_0 (Wa m c)
        ∗ wAt (F := F) c cc0_stg1_0 (Wb m c))
      ⊢ iprop((((xFly m c (chunk 1 1 c) 1
          ∗ xPts m c 0
          ∗ owns (c : Thread nD τ) (xM 0) fullShare (Xb m c (chunk 0 1 c) 0)
          ∗ semVal ((c : Thread nD τ), .dma (xS 0)) 0
          ∗ Owe (F := F) c (debt c 4)
          ∗ wAt (F := F) c cc0_stg0_0 (Wa m c)
          ∗ wAt (F := F) c cc0_stg1_0 (Wb m c))
          -∗ runs c (k (part m c (chunk 0 1 c) 0)) Q))
        -∗ runs c (k0_part9 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v210 >>= k) Q) := by
  iintro ⟨#Hr, Hxm0, HX0, Hzx0, Hxm1, HX1, Hzx1, HO, HWA, HWB⟩ Hk
  simp only [k0_part9_eq_skeleton]
  unfold k0_part9_skel
  simp only [Prog.lift, Prog.bind_op, Prog.bind_ret, Prog.pure_eq_ret]
  ihave Hxm0 := (owns_some (F := F) c (xM 0) _) $$ Hxm0
  iapply (x_start m c (chunk 0 1 c) 0 _ _ _ (xRows_of _ _ _ (off2_6 c) _) ?_ ?_) $$ [HX0 Hxm0 Hzx0]
  · rfl
  · rfl
  · isplitl [HX0]; · iexact HX0
    isplitl [Hxm0]; · iexact Hxm0
    iexact Hzx0
  iintro HXF0
  ihave Hxm1 := (owns_some (F := F) c (xM 1) _) $$ Hxm1
  iapply (x_start m c (chunk 1 1 c) 1 _ _ _ (xRows_of _ _ _ (off3_1 c) _) ?_ ?_) $$ [HX1 Hxm1 Hzx1]
  · rfl
  · rfl
  · isplitl [HX1]; · iexact HX1
    isplitl [Hxm1]; · iexact Hxm1
    iexact Hzx1
  iintro HXF1
  iapply (x_wait m K c (chunk 0 1 c) 0 4 _ _ _ ?_ ?_) $$ [HXF0 HO]
  · rfl
  · rfl
  · isplitr; · iexact Hr
    isplitl [HXF0]; · iexact HXF0
    iexact HO
  iintro ⟨HX0, Hxm0, Hzx0, HO⟩
  iapply (load_slot c xB (r3 0) (fun _ => rfl) squeezes_S1x256x2048_S256x2048 fullShare (Xb m c (chunk 0 1 c) 0) shapeCasts_S1x256x2048_S256x2048) $$ Hxm0
  iintro %v230 %ev230 Hxm0
  iapply (load_Wa c (Wa m c) _ off_zero _) $$ HWA
  iintro HWA
  iapply (load_Wb c (Wb m c) _ off_zero _) $$ HWB
  iintro HWB
  beta_reduce
  rw [show k0_pay7 v230 (Wa m c) (Wb m c) = part m c (chunk 0 1 c) 0 from (pay7_eq v230 (Wa m c) (Wb m c) _ shapeCasts_S1x256x2048_S256x2048 ev230)]
  iapply Hk
  isplitl [HXF1]; · iexact HXF1
  isplitl [HX0]; · iexact HX0
  isplitl [Hxm0]; · iexact Hxm0
  isplitl [Hzx0]; · iexact Hzx0
  isplitl [HO]; · iexact HO
  isplitl [HWA]; · iexact HWA
  iexact HWB

/-- Part 10: the lower partial product; the second hop's departure. -/
theorem part_10 (c : Dev nD) (v7 : BitVec 32) {α : Type} {Q : α → sProp 𝕄} {k : ((Σ' (v258 : FVec F S256x2048 .f32), BitVec 32)) → Prog (TpuEff nD τ sig (Elt F) Λ₀ .tc) α} :
    iprop(recs m K
        ∗ xFly m c (chunk 1 1 c) 1
        ∗ Owe (F := F) c (debt c 4)
        ∗ wAt (F := F) c cc0_stg0_0 (Wa m c)
        ∗ wAt (F := F) c cc0_stg1_0 (Wb m c)
        ∗ sent (F := F) c (0, 1))
      ⊢ iprop((∀ w : BitVec 32, ((xPts m c 1
          ∗ owns (c : Thread nD τ) (xM 1) fullShare (Xb m c (chunk 1 1 c) 1)
          ∗ semVal ((c : Thread nD τ), .dma (xS 1)) 0
          ∗ wAt (F := F) c cc0_stg0_0 (Wa m c)
          ∗ wAt (F := F) c cc0_stg1_0 (Wb m c)
          ∗ owns (c : Thread nD τ) (slot stageB 0 0) fullShare (carry m (0, 1) c)
          ∗ semVal (sndCell c (0, 1)) 0
          ∗ Owe (F := F) c (debt c 4))
          -∗ runs c (k ⟨part m c (chunk 1 1 c) 1, w⟩) Q))
        -∗ runs c (k0_part10 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v7 >>= k) Q) := by
  iintro ⟨#Hr, HXF1, HO, HWA, HWB, HS01⟩ Hk
  simp only [k0_part10_eq_skeleton]
  unfold k0_part10_skel
  simp only [Prog.lift, Prog.bind_op, Prog.bind_ret, Prog.pure_eq_ret]
  iapply (x_wait m K c (chunk 1 1 c) 1 4 _ _ _ ?_ ?_) $$ [HXF1 HO]
  · rfl
  · rfl
  · isplitr; · iexact Hr
    isplitl [HXF1]; · iexact HXF1
    iexact HO
  iintro ⟨HX1, Hxm1, Hzx1, HO⟩
  iapply (load_slot c xB (r3 1) (fun _ => rfl) squeezes_S1x256x2048_S256x2048 fullShare (Xb m c (chunk 1 1 c) 1) shapeCasts_S1x256x2048_S256x2048) $$ Hxm1
  iintro %v247 %ev247 Hxm1
  iapply (load_Wa c (Wa m c) _ off_zero _) $$ HWA
  iintro HWA
  iapply (load_Wb c (Wb m c) _ off_zero _) $$ HWB
  iintro HWB
  iapply (wait_snd m K c (0, 1) 4 _ _ _ ?_ ?_) $$ [HS01 HO]
  · rfl
  · rfl
  · isplitr; · iexact Hr
    isplitl [HS01]; · iexact HS01
    iexact HO
  iintro ⟨Hst00, Hzs01, HO⟩
  beta_reduce
  rw [show k0_pay8 v247 (Wa m c) (Wb m c) = part m c (chunk 1 1 c) 1 from (pay8_eq v247 (Wa m c) (Wb m c) _ shapeCasts_S1x256x2048_S256x2048 ev247)]
  iapply Hk
  isplitl [HX1]; · iexact HX1
  isplitl [Hxm1]; · iexact Hxm1
  isplitl [Hzx1]; · iexact Hzx1
  isplitl [HWA]; · iexact HWA
  isplitl [HWB]; · iexact HWB
  isplitl [Hst00]; · iexact Hst00
  isplitl [Hzs01]; · iexact Hzs01
  iexact HO

/-- Part 11: the second hops waited for. -/
theorem part_11 (c : Dev nD) (v5 : BitVec 32) (v265 : BitVec 32) {α : Type} {Q : α → sProp 𝕄} {k : ((PUnit)) → Prog (TpuEff nD τ sig (Elt F) Λ₀ .tc) α} :
    iprop(recs m K
        ∗ due (F := F) c (0, 1)
        ∗ Owe (F := F) c (debt c 4)
        ∗ sent (F := F) c (1, 1)
        ∗ due (F := F) c (1, 1))
      ⊢ iprop((((owns (c : Thread nD τ) (slot rsB 0 1) fullShare (carry m (0, 1) (up 0 c))
          ∗ semVal (rcvCell c (0, 1)) 0
          ∗ owns (c : Thread nD τ) (slot stageB 1 0) fullShare (carry m (1, 1) c)
          ∗ semVal (sndCell c (1, 1)) 0
          ∗ owns (c : Thread nD τ) (slot rsB 1 1) fullShare (carry m (1, 1) (up 1 c))
          ∗ semVal (rcvCell c (1, 1)) 0
          ∗ Owe (F := F) c (debt c 4))
          -∗ runs c (k ⟨⟩) Q))
        -∗ runs c (k0_part11 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v5 v265 >>= k) Q) := by
  iintro ⟨#Hr, HD01, HO, HS11, HD11⟩ Hk
  simp only [k0_part11_eq_skeleton]
  unfold k0_part11_skel
  simp only [Prog.lift, Prog.bind_op, Prog.bind_ret, Prog.pure_eq_ret]
  iapply (wait_rcv m K c (0, 1) 4 (by decide) _ _ _ ?_ ?_) $$ [HD01 HO]
  · rfl
  · rfl
  · isplitr; · iexact Hr
    isplitl [HD01]; · iexact HD01
    iexact HO
  iintro ⟨Hrs01, Hzr01, HO⟩
  ihave Hrs01 := (Entails.of_eq (show owns (c : Thread nD τ) (landM (0, 1)) fullShare (carry m (0, 1) (up 0 c)) = owns (c : Thread nD τ) (slot rsB 0 1) fullShare (carry m (0, 1) (up 0 c)) from rfl)) $$ Hrs01
  iapply (wait_snd m K c (1, 1) 4 _ _ _ ?_ ?_) $$ [HS11 HO]
  · rfl
  · rfl
  · isplitr; · iexact Hr
    isplitl [HS11]; · iexact HS11
    iexact HO
  iintro ⟨Hst10, Hzs11, HO⟩
  iapply (wait_rcv m K c (1, 1) 4 (by decide) _ _ _ ?_ ?_) $$ [HD11 HO]
  · rfl
  · rfl
  · isplitr; · iexact Hr
    isplitl [HD11]; · iexact HD11
    iexact HO
  iintro ⟨Hrs11, Hzr11, HO⟩
  ihave Hrs11 := (Entails.of_eq (show owns (c : Thread nD τ) (landM (1, 1)) fullShare (carry m (1, 1) (up 1 c)) = owns (c : Thread nD τ) (slot rsB 1 1) fullShare (carry m (1, 1) (up 1 c)) from rfl)) $$ Hrs11
  iapply Hk
  isplitl [Hrs01]; · iexact Hrs01
  isplitl [Hzr01]; · iexact Hzr01
  isplitl [Hst10]; · iexact Hst10
  isplitl [Hzs11]; · iexact Hzs11
  isplitl [Hrs11]; · iexact Hrs11
  isplitl [Hzr11]; · iexact Hzr11
  iexact HO

end Cert.TwoWay

end
-- ==== Proof.Reduce3.lean ====
/-
# The body, parts 12 to 17: the third step

One lemma per part, in continuation form: from what the part touches, what it leaves.
-/
module

public import proofs.«01_k».proof.Proof.Steps

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- Part 12: the second blocks added to and staged; the upper one sent on. -/
theorem part_12 (c : Dev nD) (v7 : BitVec 32) {α : Type} {Q : α → sProp 𝕄} {k : ((PUnit)) → Prog (TpuEff nD τ sig (Elt F) Λ₀ .tc) α} :
    iprop(recs m K
        ∗ owns (c : Thread nD τ) (slot rsB 0 1) fullShare (carry m (0, 1) (up 0 c))
        ∗ owns (c : Thread nD τ) (slot rsB 1 1) fullShare (carry m (1, 1) (up 1 c))
        ∗ some_ (F := F) c (slot stageB 0 1)
        ∗ some_ (F := F) c (slot stageB 1 1)
        ∗ plan (F := F) c (0, 2)
        ∗ some_ (F := F) (dn 0 c) (landM (0, 2))
        ∗ Owe (F := F) c (debt c 4))
      ⊢ iprop((((owns (c : Thread nD τ) (slot rsB 0 1) fullShare (carry m (0, 1) (up 0 c))
          ∗ owns (c : Thread nD τ) (slot rsB 1 1) fullShare (carry m (1, 1) (up 1 c))
          ∗ owns (c : Thread nD τ) (slot stageB 1 1) fullShare (carry m (1, 2) c)
          ∗ sent (F := F) c (0, 2)
          ∗ due (F := F) c (0, 2)
          ∗ Owe (F := F) c (debt c 5))
          -∗ runs c (k ⟨⟩) Q))
        -∗ runs c (k0_part12 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v7 (part m c (chunk 0 1 c) 0) (part m c (chunk 1 1 c) 1) >>= k) Q) := by
  iintro ⟨#Hr, Hrs01, Hrs11, Hst01, Hst11, HP02, HL02, HO⟩ Hk
  simp only [k0_part12_eq_skeleton]
  unfold k0_part12_skel
  simp only [Prog.lift, Prog.bind_op, Prog.bind_ret, Prog.pure_eq_ret]
  iapply (load_slot c rsB (r4 0 1) (fun _ => rfl) squeezes_S1x1x256x2048_S256x2048 fullShare (carry m (0, 1) (up 0 c)) shapeCasts_S1x1x256x2048_S256x2048) $$ Hrs01
  iintro %v287 %ev287 Hrs01
  iapply (load_slot c rsB (r4 1 1) (fun _ => rfl) squeezes_S1x1x256x2048_S256x2048 fullShare (carry m (1, 1) (up 1 c)) shapeCasts_S1x1x256x2048_S256x2048) $$ Hrs11
  iintro %v291 %ev291 Hrs11
  ihave Hst01 := (some_open (F := F) c (slot stageB 0 1)) $$ Hst01
  icases Hst01 with ⟨%Tst01, Hst01⟩
  iapply (load_slot c stageB (r4 0 1) (fun _ => rfl) squeezes_S1x1x256x2048_S256x2048 fullShare Tst01 shapeCasts_S1x1x256x2048_S256x2048) $$ Hst01
  iintro %v296 %ev296 Hst01
  iapply (store_slot c stageB (r4 0 1) (fun _ => rfl) squeezes_S1x1x256x2048_S256x2048 Tst01 (carry m (0, 2) c) _ shapeCasts_S1x1x256x2048_S256x2048 (pay9_eq (part m c (chunk 0 1 c) 0) v287 _ _ ev287)) $$ Hst01
  iintro Hst01
  ihave Hst11 := (some_open (F := F) c (slot stageB 1 1)) $$ Hst11
  icases Hst11 with ⟨%Tst11, Hst11⟩
  iapply (load_slot c stageB (r4 1 1) (fun _ => rfl) squeezes_S1x1x256x2048_S256x2048 fullShare Tst11 shapeCasts_S1x1x256x2048_S256x2048) $$ Hst11
  iintro %v300 %ev300 Hst11
  iapply (store_slot c stageB (r4 1 1) (fun _ => rfl) squeezes_S1x1x256x2048_S256x2048 Tst11 (carry m (1, 2) c) _ shapeCasts_S1x1x256x2048_S256x2048 (pay10_eq (part m c (chunk 1 1 c) 1) v291 _ _ ev291)) $$ Hst11
  iintro Hst11
  iapply (send_core m K c _ (0, 2) (dev7_eq c) _ _ _ _ ?_ ?_ ?_ ?_) $$ [HP02 Hst01 HL02 HO]
  iterate 4 rfl
  · isplitr; · iexact Hr
    isplitl [HP02]; · iexact HP02
    isplitl [Hst01]; · iexact Hst01
    isplitl [HL02]; · iexact HL02
    iexact HO
  iintro ⟨HS02, HD02, HO⟩
  iapply Hk
  isplitl [Hrs01]; · iexact Hrs01
  isplitl [Hrs11]; · iexact Hrs11
  isplitl [Hst11]; · iexact Hst11
  isplitl [HS02]; · iexact HS02
  isplitl [HD02]; · iexact HD02
  iexact HO

/-- Part 13: the lower one sent on, and the last step's rows on their way. -/
theorem part_13 (c : Dev nD) (v2 : BitVec 32) (v5 : BitVec 32) {α : Type} {Q : α → sProp 𝕄} {k : ((PUnit)) → Prog (TpuEff nD τ sig (Elt F) Λ₀ .tc) α} :
    iprop(recs m K
        ∗ plan (F := F) c (1, 2)
        ∗ owns (c : Thread nD τ) (slot stageB 1 1) fullShare (carry m (1, 2) c)
        ∗ some_ (F := F) (dn 1 c) (landM (1, 2))
        ∗ Owe (F := F) c (debt c 5)
        ∗ owns (c : Thread nD τ) (xM 0) fullShare (Xb m c (chunk 0 1 c) 0)
        ∗ xPts m c 0
        ∗ semVal ((c : Thread nD τ), .dma (xS 0)) 0
        ∗ owns (c : Thread nD τ) (xM 1) fullShare (Xb m c (chunk 1 1 c) 1)
        ∗ xPts m c 1
        ∗ semVal ((c : Thread nD τ), .dma (xS 1)) 0)
      ⊢ iprop((((sent (F := F) c (1, 2)
          ∗ due (F := F) c (1, 2)
          ∗ Owe (F := F) c (debt c 6)
          ∗ xFly m c (chunk 0 2 c) 0
          ∗ xFly m c (chunk 1 2 c) 1)
          -∗ runs c (k ⟨⟩) Q))
        -∗ runs c (k0_part13 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v5 >>= k) Q) := by
  iintro ⟨#Hr, HP12, Hst11, HL12, HO, Hxm0, HX0, Hzx0, Hxm1, HX1, Hzx1⟩ Hk
  simp only [k0_part13_eq_skeleton]
  unfold k0_part13_skel
  simp only [Prog.lift, Prog.bind_op, Prog.bind_ret, Prog.pure_eq_ret]
  iapply (send_core m K c _ (1, 2) (dev8_eq c) _ _ _ _ ?_ ?_ ?_ ?_) $$ [HP12 Hst11 HL12 HO]
  iterate 4 rfl
  · isplitr; · iexact Hr
    isplitl [HP12]; · iexact HP12
    isplitl [Hst11]; · iexact Hst11
    isplitl [HL12]; · iexact HL12
    iexact HO
  iintro ⟨HS12, HD12, HO⟩
  ihave Hxm0 := (owns_some (F := F) c (xM 0) _) $$ Hxm0
  iapply (x_start m c (chunk 0 2 c) 0 _ _ _ (xRows_of _ _ _ (off2_5 c) _) ?_ ?_) $$ [HX0 Hxm0 Hzx0]
  · rfl
  · rfl
  · isplitl [HX0]; · iexact HX0
    isplitl [Hxm0]; · iexact Hxm0
    iexact Hzx0
  iintro HXF0
  ihave Hxm1 := (owns_some (F := F) c (xM 1) _) $$ Hxm1
  iapply (x_start m c (chunk 1 2 c) 1 _ _ _ (xRows_of _ _ _ (off3_2 c) _) ?_ ?_) $$ [HX1 Hxm1 Hzx1]
  · rfl
  · rfl
  · isplitl [HX1]; · iexact HX1
    isplitl [Hxm1]; · iexact Hxm1
    iexact Hzx1
  iintro HXF1
  iapply Hk
  isplitl [HS12]; · iexact HS12
  isplitl [HD12]; · iexact HD12
  isplitl [HO]; · iexact HO
  isplitl [HXF0]; · iexact HXF0
  iexact HXF1

/-- Part 14: the last upper partial product, and the lower hidden layer. -/
theorem part_14 (c : Dev nD)  {α : Type} {Q : α → sProp 𝕄} {k : ((Σ' (v358 : FVec F S256x2048 .f32), FVec F S256x4096 .bf16)) → Prog (TpuEff nD τ sig (Elt F) Λ₀ .tc) α} :
    iprop(recs m K
        ∗ xFly m c (chunk 0 2 c) 0
        ∗ Owe (F := F) c (debt c 6)
        ∗ wAt (F := F) c cc0_stg0_0 (Wa m c)
        ∗ wAt (F := F) c cc0_stg1_0 (Wb m c)
        ∗ xFly m c (chunk 1 2 c) 1)
      ⊢ iprop((((xPts m c 0
          ∗ owns (c : Thread nD τ) (xM 0) fullShare (Xb m c (chunk 0 2 c) 0)
          ∗ semVal ((c : Thread nD τ), .dma (xS 0)) 0
          ∗ wAt (F := F) c cc0_stg0_0 (Wa m c)
          ∗ wAt (F := F) c cc0_stg1_0 (Wb m c)
          ∗ xPts m c 1
          ∗ owns (c : Thread nD τ) (xM 1) fullShare (Xb m c (chunk 1 2 c) 1)
          ∗ semVal ((c : Thread nD τ), .dma (xS 1)) 0
          ∗ Owe (F := F) c (debt c 6))
          -∗ runs c (k ⟨part m c (chunk 0 2 c) 0, hid (Xb m c (chunk 1 2 c) 1) (Wa m c)⟩) Q))
        -∗ runs c (k0_part14 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c >>= k) Q) := by
  iintro ⟨#Hr, HXF0, HO, HWA, HWB, HXF1⟩ Hk
  simp only [k0_part14_eq_skeleton]
  unfold k0_part14_skel
  simp only [Prog.lift, Prog.bind_op, Prog.bind_ret, Prog.pure_eq_ret]
  iapply (x_wait m K c (chunk 0 2 c) 0 6 _ _ _ ?_ ?_) $$ [HXF0 HO]
  · rfl
  · rfl
  · isplitr; · iexact Hr
    isplitl [HXF0]; · iexact HXF0
    iexact HO
  iintro ⟨HX0, Hxm0, Hzx0, HO⟩
  iapply (load_slot c xB (r3 0) (fun _ => rfl) squeezes_S1x256x2048_S256x2048 fullShare (Xb m c (chunk 0 2 c) 0) shapeCasts_S1x256x2048_S256x2048) $$ Hxm0
  iintro %v347 %ev347 Hxm0
  iapply (load_Wa c (Wa m c) _ off_zero _) $$ HWA
  iintro HWA
  iapply (load_Wb c (Wb m c) _ off_zero _) $$ HWB
  iintro HWB
  iapply (x_wait m K c (chunk 1 2 c) 1 6 _ _ _ ?_ ?_) $$ [HXF1 HO]
  · rfl
  · rfl
  · isplitr; · iexact Hr
    isplitl [HXF1]; · iexact HXF1
    iexact HO
  iintro ⟨HX1, Hxm1, Hzx1, HO⟩
  iapply (load_slot c xB (r3 1) (fun _ => rfl) squeezes_S1x256x2048_S256x2048 fullShare (Xb m c (chunk 1 2 c) 1) shapeCasts_S1x256x2048_S256x2048) $$ Hxm1
  iintro %v364 %ev364 Hxm1
  iapply (load_Wa c (Wa m c) _ off_zero _) $$ HWA
  iintro HWA
  beta_reduce
  rw [show k0_pay11 v347 (Wa m c) (Wb m c) = part m c (chunk 0 2 c) 0 from (pay11_eq v347 (Wa m c) (Wb m c) _ shapeCasts_S1x256x2048_S256x2048 ev347)]
  rw [show k0_pay12 v364 (Wa m c) = hid (Xb m c (chunk 1 2 c) 1) (Wa m c) from (pay12_eq v364 (Wa m c) _ shapeCasts_S1x256x2048_S256x2048 ev364)]
  iapply Hk
  isplitl [HX0]; · iexact HX0
  isplitl [Hxm0]; · iexact Hxm0
  isplitl [Hzx0]; · iexact Hzx0
  isplitl [HWA]; · iexact HWA
  isplitl [HWB]; · iexact HWB
  isplitl [HX1]; · iexact HX1
  isplitl [Hxm1]; · iexact Hxm1
  isplitl [Hzx1]; · iexact Hzx1
  iexact HO

/-- Part 15: the last lower partial product; the third upper hop waited for. -/
theorem part_15 (c : Dev nD) (v7 : BitVec 32) {α : Type} {Q : α → sProp 𝕄} {k : ((FVec F S256x2048 .f32)) → Prog (TpuEff nD τ sig (Elt F) Λ₀ .tc) α} :
    iprop(recs m K
        ∗ wAt (F := F) c cc0_stg1_0 (Wb m c)
        ∗ sent (F := F) c (0, 2)
        ∗ Owe (F := F) c (debt c 6)
        ∗ due (F := F) c (0, 2))
      ⊢ iprop((((wAt (F := F) c cc0_stg1_0 (Wb m c)
          ∗ owns (c : Thread nD τ) (slot stageB 0 1) fullShare (carry m (0, 2) c)
          ∗ semVal (sndCell c (0, 2)) 0
          ∗ owns (c : Thread nD τ) (slot rsB 0 2) fullShare (carry m (0, 2) (up 0 c))
          ∗ semVal (rcvCell c (0, 2)) 0
          ∗ Owe (F := F) c (debt c 6))
          -∗ runs c (k (part m c (chunk 1 2 c) 1)) Q))
        -∗ runs c (k0_part15 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v7 (hid (Xb m c (chunk 1 2 c) 1) (Wa m c)) >>= k) Q) := by
  iintro ⟨#Hr, HWB, HS02, HO, HD02⟩ Hk
  simp only [k0_part15_eq_skeleton]
  unfold k0_part15_skel
  simp only [Prog.lift, Prog.bind_op, Prog.bind_ret, Prog.pure_eq_ret]
  iapply (load_Wb c (Wb m c) _ off_zero _) $$ HWB
  iintro HWB
  iapply (wait_snd m K c (0, 2) 6 _ _ _ ?_ ?_) $$ [HS02 HO]
  · rfl
  · rfl
  · isplitr; · iexact Hr
    isplitl [HS02]; · iexact HS02
    iexact HO
  iintro ⟨Hst01, Hzs02, HO⟩
  iapply (wait_rcv m K c (0, 2) 6 (by decide) _ _ _ ?_ ?_) $$ [HD02 HO]
  · rfl
  · rfl
  · isplitr; · iexact Hr
    isplitl [HD02]; · iexact HD02
    iexact HO
  iintro ⟨Hrs02, Hzr02, HO⟩
  ihave Hrs02 := (Entails.of_eq (show owns (c : Thread nD τ) (landM (0, 2)) fullShare (carry m (0, 2) (up 0 c)) = owns (c : Thread nD τ) (slot rsB 0 2) fullShare (carry m (0, 2) (up 0 c)) from rfl)) $$ Hrs02
  beta_reduce
  rw [show k0_pay13 (hid (Xb m c (chunk 1 2 c) 1) (Wa m c)) (Wb m c) = part m c (chunk 1 2 c) 1 from (pay13_eq (Xb m c (chunk 1 2 c) 1) (Wa m c) (Wb m c))]
  iapply Hk
  isplitl [HWB]; · iexact HWB
  isplitl [Hst01]; · iexact Hst01
  isplitl [Hzs02]; · iexact Hzs02
  isplitl [Hrs02]; · iexact Hrs02
  isplitl [Hzr02]; · iexact Hzr02
  iexact HO

/-- Part 16: the third lower hop; the upper block summed over the ring and staged. -/
theorem part_16 (c : Dev nD) (v5 : BitVec 32) {α : Type} {Q : α → sProp 𝕄} {k : ((FVec F S256x2048 .bf16)) → Prog (TpuEff nD τ sig (Elt F) Λ₀ .tc) α} :
    iprop(recs m K
        ∗ sent (F := F) c (1, 2)
        ∗ Owe (F := F) c (debt c 6)
        ∗ due (F := F) c (1, 2)
        ∗ owns (c : Thread nD τ) (slot rsB 0 2) fullShare (carry m (0, 2) (up 0 c))
        ∗ some_ (F := F) c (slot stageB 0 2))
      ⊢ iprop((((owns (c : Thread nD τ) (slot stageB 1 1) fullShare (carry m (1, 2) c)
          ∗ semVal (sndCell c (1, 2)) 0
          ∗ owns (c : Thread nD τ) (slot rsB 1 2) fullShare (carry m (1, 2) (up 1 c))
          ∗ semVal (rcvCell c (1, 2)) 0
          ∗ Owe (F := F) c (debt c 6)
          ∗ owns (c : Thread nD τ) (slot rsB 0 2) fullShare (carry m (0, 2) (up 0 c))
          ∗ owns (c : Thread nD τ) (slot stageB 0 2) fullShare (carry m (0, 3) c))
          -∗ runs c (k (carry m (1, 3) c)) Q))
        -∗ runs c (k0_part16 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v5 (part m c (chunk 0 2 c) 0) (part m c (chunk 1 2 c) 1) >>= k) Q) := by
  iintro ⟨#Hr, HS12, HO, HD12, Hrs02, Hst02⟩ Hk
  simp only [k0_part16_eq_skeleton]
  unfold k0_part16_skel
  simp only [Prog.lift, Prog.bind_op, Prog.bind_ret, Prog.pure_eq_ret]
  iapply (wait_snd m K c (1, 2) 6 _ _ _ ?_ ?_) $$ [HS12 HO]
  · rfl
  · rfl
  · isplitr; · iexact Hr
    isplitl [HS12]; · iexact HS12
    iexact HO
  iintro ⟨Hst11, Hzs12, HO⟩
  iapply (wait_rcv m K c (1, 2) 6 (by decide) _ _ _ ?_ ?_) $$ [HD12 HO]
  · rfl
  · rfl
  · isplitr; · iexact Hr
    isplitl [HD12]; · iexact HD12
    iexact HO
  iintro ⟨Hrs12, Hzr12, HO⟩
  ihave Hrs12 := (Entails.of_eq (show owns (c : Thread nD τ) (landM (1, 2)) fullShare (carry m (1, 2) (up 1 c)) = owns (c : Thread nD τ) (slot rsB 1 2) fullShare (carry m (1, 2) (up 1 c)) from rfl)) $$ Hrs12
  iapply (load_slot c rsB (r4 0 2) (fun _ => rfl) squeezes_S1x1x256x2048_S256x2048 fullShare (carry m (0, 2) (up 0 c)) shapeCasts_S1x1x256x2048_S256x2048) $$ Hrs02
  iintro %v404 %ev404 Hrs02
  iapply (load_slot c rsB (r4 1 2) (fun _ => rfl) squeezes_S1x1x256x2048_S256x2048 fullShare (carry m (1, 2) (up 1 c)) shapeCasts_S1x1x256x2048_S256x2048) $$ Hrs12
  iintro %v408 %ev408 Hrs12
  ihave Hst02 := (some_open (F := F) c (slot stageB 0 2)) $$ Hst02
  icases Hst02 with ⟨%Tst02, Hst02⟩
  iapply (load_slot c stageB (r4 0 2) (fun _ => rfl) squeezes_S1x1x256x2048_S256x2048 fullShare Tst02 shapeCasts_S1x1x256x2048_S256x2048) $$ Hst02
  iintro %v413 %ev413 Hst02
  iapply (store_slot c stageB (r4 0 2) (fun _ => rfl) squeezes_S1x1x256x2048_S256x2048 Tst02 (carry m (0, 3) c) _ shapeCasts_S1x1x256x2048_S256x2048 (pay14_eq (part m c (chunk 0 2 c) 0) v404 _ _ ev404)) $$ Hst02
  iintro Hst02
  beta_reduce
  rw [show k0_pay15 (part m c (chunk 1 2 c) 1) v408 = carry m (1, 3) c from (pay15_eq (part m c (chunk 1 2 c) 1) v408 _ shapeCasts_S1x1x256x2048_S256x2048 ev408)]
  iapply Hk
  isplitl [Hst11]; · iexact Hst11
  isplitl [Hzs12]; · iexact Hzs12
  isplitl [Hrs12]; · iexact Hrs12
  isplitl [Hzr12]; · iexact Hzr12
  isplitl [HO]; · iexact HO
  isplitl [Hrs02]; · iexact Hrs02
  iexact Hst02

/-- Part 17: the lower one staged, and both on their way into the result. -/
theorem part_17 (c : Dev nD) (v2 : BitVec 32) (v5 : BitVec 32) (v7 : BitVec 32) {α : Type} {Q : α → sProp 𝕄} {k : ((PUnit)) → Prog (TpuEff nD τ sig (Elt F) Λ₀ .tc) α} :
    iprop(recs m K
        ∗ some_ (F := F) c (slot stageB 1 2)
        ∗ owns (c : Thread nD τ) (slot stageB 0 2) fullShare (carry m (0, 3) c)
        ∗ some_ (F := F) c (outRows (outChunk 0 0 c) 0)
        ∗ semVal ((c : Thread nD τ), .dma (outS 0 0)) 0
        ∗ some_ (F := F) c (outRows (outChunk 1 0 c) 1)
        ∗ semVal ((c : Thread nD τ), .dma (outS 1 0)) 0)
      ⊢ iprop((((owns (c : Thread nD τ) (slot stageB 0 2) fullShare.left (carry m (0, 3) c)
          ∗ outFly c 0 0 (outChunk 0 0 c) (slot stageB 0 2) fullShare.right (carry m (0, 3) c)
          ∗ owns (c : Thread nD τ) (slot stageB 1 2) fullShare.left (carry m (1, 3) c)
          ∗ outFly c 1 0 (outChunk 1 0 c) (slot stageB 1 2) fullShare.right (carry m (1, 3) c))
          -∗ runs c (k ⟨⟩) Q))
        -∗ runs c (k0_part17 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v5 v7 (carry m (1, 3) c) >>= k) Q) := by
  iintro ⟨#Hr, Hst12, Hst02, Hout00, Hzo00, Hout10, Hzo10⟩ Hk
  simp only [k0_part17_eq_skeleton]
  unfold k0_part17_skel
  simp only [Prog.lift, Prog.bind_op, Prog.bind_ret, Prog.pure_eq_ret]
  ihave Hst12 := (some_open (F := F) c (slot stageB 1 2)) $$ Hst12
  icases Hst12 with ⟨%Tst12, Hst12⟩
  iapply (load_slot c stageB (r4 1 2) (fun _ => rfl) squeezes_S1x1x256x2048_S256x2048 fullShare Tst12 shapeCasts_S1x1x256x2048_S256x2048) $$ Hst12
  iintro %v417 %ev417 Hst12
  iapply (store_slot c stageB (r4 1 2) (fun _ => rfl) squeezes_S1x1x256x2048_S256x2048 Tst12 (carry m (1, 3) c) _ shapeCasts_S1x1x256x2048_S256x2048 (pay16_eq _ _)) $$ Hst12
  iintro Hst12
  ihave Hst02 := (owns_halve (F := F) c (slot stageB 0 2) _) $$ Hst02
  icases Hst02 with ⟨Hst02L, Hst02R⟩
  iapply (out_start c 0 0 (outChunk 0 0 c) (slot stageB 0 2) fullShare.right (carry m (0, 3) c) _ _ _ ?_ (outRows_of _ _ _ (out_0_0 c) _) ?_) $$ [Hst02R Hout00 Hzo00]
  · rfl
  · rfl
  · isplitl [Hst02R]; · iexact Hst02R
    isplitl [Hout00]; · iexact Hout00
    iexact Hzo00
  iintro HOF00
  ihave Hst12 := (owns_halve (F := F) c (slot stageB 1 2) _) $$ Hst12
  icases Hst12 with ⟨Hst12L, Hst12R⟩
  iapply (out_start c 1 0 (outChunk 1 0 c) (slot stageB 1 2) fullShare.right (carry m (1, 3) c) _ _ _ ?_ (outRows_of _ _ _ (out_1_0 c) _) ?_) $$ [Hst12R Hout10 Hzo10]
  · rfl
  · rfl
  · isplitl [Hst12R]; · iexact Hst12R
    isplitl [Hout10]; · iexact Hout10
    iexact Hzo10
  iintro HOF10
  iapply Hk
  isplitl [Hst02L]; · iexact Hst02L
  isplitl [HOF00]; · iexact HOF00
  isplitl [Hst12L]; · iexact Hst12L
  iexact HOF10

end Cert.TwoWay

end
-- ==== Proof.Gather.lean ====
/-
# The body, parts 18 to 27: the all-gather

One lemma per part, in continuation form: from what the part touches, what it leaves.
-/
module

public import proofs.«01_k».proof.Proof.Steps

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- Part 18: both sent around the ring. -/
theorem part_18 (c : Dev nD) (v5 : BitVec 32) {α : Type} {Q : α → sProp 𝕄} {k : ((PUnit)) → Prog (TpuEff nD τ sig (Elt F) Λ₀ .tc) α} :
    iprop(recs m K
        ∗ plan (F := F) c (0, 3)
        ∗ owns (c : Thread nD τ) (slot stageB 0 2) fullShare.left (carry m (0, 3) c)
        ∗ some_ (F := F) (dn 0 c) (landM (0, 3))
        ∗ Owe (F := F) c (debt c 6)
        ∗ plan (F := F) c (1, 3)
        ∗ owns (c : Thread nD τ) (slot stageB 1 2) fullShare.left (carry m (1, 3) c)
        ∗ some_ (F := F) (dn 1 c) (landM (1, 3)))
      ⊢ iprop((((due (F := F) c (0, 3)
          ∗ sent (F := F) c (1, 3)
          ∗ due (F := F) c (1, 3)
          ∗ owns (c : Thread nD τ) (slot stageB 0 2) fullShare.left (carry m (0, 3) c)
          ∗ semVal (sndCell c (0, 3)) 0
          ∗ Owe (F := F) c (debt c 8))
          -∗ runs c (k ⟨⟩) Q))
        -∗ runs c (k0_part18 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v5 >>= k) Q) := by
  iintro ⟨#Hr, HP03, Hst02L, HL03, HO, HP13, Hst12L, HL13⟩ Hk
  simp only [k0_part18_eq_skeleton]
  unfold k0_part18_skel
  simp only [Prog.lift, Prog.bind_op, Prog.bind_ret, Prog.pure_eq_ret]
  iapply (send_core m K c _ (0, 3) (dev9_eq c) _ _ _ _ ?_ ?_ ?_ ?_) $$ [HP03 Hst02L HL03 HO]
  iterate 4 rfl
  · isplitr; · iexact Hr
    isplitl [HP03]; · iexact HP03
    isplitl [Hst02L]; · iexact Hst02L
    isplitl [HL03]; · iexact HL03
    iexact HO
  iintro ⟨HS03, HD03, HO⟩
  iapply (send_core m K c _ (1, 3) (dev10_eq c) _ _ _ _ ?_ ?_ ?_ ?_) $$ [HP13 Hst12L HL13 HO]
  iterate 4 rfl
  · isplitr; · iexact Hr
    isplitl [HP13]; · iexact HP13
    isplitl [Hst12L]; · iexact Hst12L
    isplitl [HL13]; · iexact HL13
    iexact HO
  iintro ⟨HS13, HD13, HO⟩
  iapply (wait_snd m K c (0, 3) 8 _ _ _ ?_ ?_) $$ [HS03 HO]
  · rfl
  · rfl
  · isplitr; · iexact Hr
    isplitl [HS03]; · iexact HS03
    iexact HO
  iintro ⟨Hst02L, Hzs03, HO⟩
  iapply Hk
  isplitl [HD03]; · iexact HD03
  isplitl [HS13]; · iexact HS13
  isplitl [HD13]; · iexact HD13
  isplitl [Hst02L]; · iexact Hst02L
  isplitl [Hzs03]; · iexact Hzs03
  iexact HO

/-- Part 19: the first gathered blocks received. -/
theorem part_19 (c : Dev nD) (v5 : BitVec 32) (v7 : BitVec 32) {α : Type} {Q : α → sProp 𝕄} {k : ((PUnit)) → Prog (TpuEff nD τ sig (Elt F) Λ₀ .tc) α} :
    iprop(recs m K
        ∗ due (F := F) c (0, 3)
        ∗ Owe (F := F) c (debt c 8)
        ∗ sent (F := F) c (1, 3)
        ∗ due (F := F) c (1, 3))
      ⊢ iprop((((owns (c : Thread nD τ) (slot agB 0 0) fullShare (carry m (0, 3) (up 0 c))
          ∗ semVal (rcvCell c (0, 3)) 0
          ∗ owns (c : Thread nD τ) (slot stageB 1 2) fullShare.left (carry m (1, 3) c)
          ∗ semVal (sndCell c (1, 3)) 0
          ∗ owns (c : Thread nD τ) (slot agB 1 0) fullShare (carry m (1, 3) (up 1 c))
          ∗ semVal (rcvCell c (1, 3)) 0
          ∗ Owe (F := F) c (debt c 8))
          -∗ runs c (k ⟨⟩) Q))
        -∗ runs c (k0_part19 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v5 v7 >>= k) Q) := by
  iintro ⟨#Hr, HD03, HO, HS13, HD13⟩ Hk
  simp only [k0_part19_eq_skeleton]
  unfold k0_part19_skel
  simp only [Prog.lift, Prog.bind_op, Prog.bind_ret, Prog.pure_eq_ret]
  iapply (wait_rcv m K c (0, 3) 8 (by decide) _ _ _ ?_ ?_) $$ [HD03 HO]
  · rfl
  · rfl
  · isplitr; · iexact Hr
    isplitl [HD03]; · iexact HD03
    iexact HO
  iintro ⟨Hag00, Hzr03, HO⟩
  iapply (wait_snd m K c (1, 3) 8 _ _ _ ?_ ?_) $$ [HS13 HO]
  · rfl
  · rfl
  · isplitr; · iexact Hr
    isplitl [HS13]; · iexact HS13
    iexact HO
  iintro ⟨Hst12L, Hzs13, HO⟩
  iapply (wait_rcv m K c (1, 3) 8 (by decide) _ _ _ ?_ ?_) $$ [HD13 HO]
  · rfl
  · rfl
  · isplitr; · iexact Hr
    isplitl [HD13]; · iexact HD13
    iexact HO
  iintro ⟨Hag10, Hzr13, HO⟩
  iapply Hk
  isplitl [Hag00]; · iexact Hag00
  isplitl [Hzr03]; · iexact Hzr03
  isplitl [Hst12L]; · iexact Hst12L
  isplitl [Hzs13]; · iexact Hzs13
  isplitl [Hag10]; · iexact Hag10
  isplitl [Hzr13]; · iexact Hzr13
  iexact HO

/-- Part 20: copied into the result. -/
theorem part_20 (c : Dev nD) (v2 : BitVec 32) (v7 : BitVec 32) {α : Type} {Q : α → sProp 𝕄} {k : ((PUnit)) → Prog (TpuEff nD τ sig (Elt F) Λ₀ .tc) α} :
    iprop(recs m K
        ∗ owns (c : Thread nD τ) (slot agB 0 0) fullShare (carry m (0, 3) (up 0 c))
        ∗ some_ (F := F) c (outRows (outChunk 0 1 c) 0)
        ∗ semVal ((c : Thread nD τ), .dma (outS 0 1)) 0
        ∗ owns (c : Thread nD τ) (slot agB 1 0) fullShare (carry m (1, 3) (up 1 c))
        ∗ some_ (F := F) c (outRows (outChunk 1 1 c) 1)
        ∗ semVal ((c : Thread nD τ), .dma (outS 1 1)) 0)
      ⊢ iprop((((owns (c : Thread nD τ) (slot agB 0 0) fullShare.left (carry m (0, 3) (up 0 c))
          ∗ outFly c 0 1 (outChunk 0 1 c) (slot agB 0 0) fullShare.right (carry m (0, 3) (up 0 c))
          ∗ owns (c : Thread nD τ) (slot agB 1 0) fullShare.left (carry m (1, 3) (up 1 c))
          ∗ outFly c 1 1 (outChunk 1 1 c) (slot agB 1 0) fullShare.right (carry m (1, 3) (up 1 c)))
          -∗ runs c (k ⟨⟩) Q))
        -∗ runs c (k0_part20 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v7 >>= k) Q) := by
  iintro ⟨#Hr, Hag00, Hout01, Hzo01, Hag10, Hout11, Hzo11⟩ Hk
  simp only [k0_part20_eq_skeleton]
  unfold k0_part20_skel
  simp only [Prog.lift, Prog.bind_op, Prog.bind_ret, Prog.pure_eq_ret]
  ihave Hag00 := (owns_halve (F := F) c (slot agB 0 0) _) $$ Hag00
  icases Hag00 with ⟨Hag00L, Hag00R⟩
  iapply (out_start c 0 1 (outChunk 0 1 c) (slot agB 0 0) fullShare.right (carry m (0, 3) (up 0 c)) _ _ _ ?_ (outRows_of _ _ _ (out_0_1 c) _) ?_) $$ [Hag00R Hout01 Hzo01]
  · rfl
  · rfl
  · isplitl [Hag00R]; · iexact Hag00R
    isplitl [Hout01]; · iexact Hout01
    iexact Hzo01
  iintro HOF01
  ihave Hag10 := (owns_halve (F := F) c (slot agB 1 0) _) $$ Hag10
  icases Hag10 with ⟨Hag10L, Hag10R⟩
  iapply (out_start c 1 1 (outChunk 1 1 c) (slot agB 1 0) fullShare.right (carry m (1, 3) (up 1 c)) _ _ _ ?_ (outRows_of _ _ _ (out_1_1 c) _) ?_) $$ [Hag10R Hout11 Hzo11]
  · rfl
  · rfl
  · isplitl [Hag10R]; · iexact Hag10R
    isplitl [Hout11]; · iexact Hout11
    iexact Hzo11
  iintro HOF11
  iapply Hk
  isplitl [Hag00L]; · iexact Hag00L
  isplitl [HOF01]; · iexact HOF01
  isplitl [Hag10L]; · iexact Hag10L
  iexact HOF11

/-- Part 21: sent on. -/
theorem part_21 (c : Dev nD) (v5 : BitVec 32) {α : Type} {Q : α → sProp 𝕄} {k : ((PUnit)) → Prog (TpuEff nD τ sig (Elt F) Λ₀ .tc) α} :
    iprop(recs m K
        ∗ plan (F := F) c (0, 4)
        ∗ owns (c : Thread nD τ) (slot agB 0 0) fullShare.left (carry m (0, 3) (up 0 c))
        ∗ some_ (F := F) (dn 0 c) (landM (0, 4))
        ∗ Owe (F := F) c (debt c 8)
        ∗ plan (F := F) c (1, 4)
        ∗ owns (c : Thread nD τ) (slot agB 1 0) fullShare.left (carry m (1, 3) (up 1 c))
        ∗ some_ (F := F) (dn 1 c) (landM (1, 4)))
      ⊢ iprop((((due (F := F) c (0, 4)
          ∗ sent (F := F) c (1, 4)
          ∗ due (F := F) c (1, 4)
          ∗ owns (c : Thread nD τ) (slot agB 0 0) fullShare.left (carry m (0, 4) c)
          ∗ semVal (sndCell c (0, 4)) 0
          ∗ Owe (F := F) c (debt c 10))
          -∗ runs c (k ⟨⟩) Q))
        -∗ runs c (k0_part21 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v5 >>= k) Q) := by
  iintro ⟨#Hr, HP04, Hag00L, HL04, HO, HP14, Hag10L, HL14⟩ Hk
  simp only [k0_part21_eq_skeleton]
  unfold k0_part21_skel
  simp only [Prog.lift, Prog.bind_op, Prog.bind_ret, Prog.pure_eq_ret]
  iapply (send_core m K c _ (0, 4) (dev11_eq c) _ _ _ _ ?_ ?_ ?_ ?_) $$ [HP04 Hag00L HL04 HO]
  iterate 4 rfl
  · isplitr; · iexact Hr
    isplitl [HP04]; · iexact HP04
    isplitl [Hag00L]; · iexact Hag00L
    isplitl [HL04]; · iexact HL04
    iexact HO
  iintro ⟨HS04, HD04, HO⟩
  iapply (send_core m K c _ (1, 4) (dev12_eq c) _ _ _ _ ?_ ?_ ?_ ?_) $$ [HP14 Hag10L HL14 HO]
  iterate 4 rfl
  · isplitr; · iexact Hr
    isplitl [HP14]; · iexact HP14
    isplitl [Hag10L]; · iexact Hag10L
    isplitl [HL14]; · iexact HL14
    iexact HO
  iintro ⟨HS14, HD14, HO⟩
  iapply (wait_snd m K c (0, 4) 10 _ _ _ ?_ ?_) $$ [HS04 HO]
  · rfl
  · rfl
  · isplitr; · iexact Hr
    isplitl [HS04]; · iexact HS04
    iexact HO
  iintro ⟨Hag00L, Hzs04, HO⟩
  iapply Hk
  isplitl [HD04]; · iexact HD04
  isplitl [HS14]; · iexact HS14
  isplitl [HD14]; · iexact HD14
  isplitl [Hag00L]; · iexact Hag00L
  isplitl [Hzs04]; · iexact Hzs04
  iexact HO

/-- Part 22: the second gathered blocks received. -/
theorem part_22 (c : Dev nD) (v5 : BitVec 32) (v7 : BitVec 32) {α : Type} {Q : α → sProp 𝕄} {k : ((PUnit)) → Prog (TpuEff nD τ sig (Elt F) Λ₀ .tc) α} :
    iprop(recs m K
        ∗ due (F := F) c (0, 4)
        ∗ Owe (F := F) c (debt c 10)
        ∗ sent (F := F) c (1, 4)
        ∗ due (F := F) c (1, 4))
      ⊢ iprop((((owns (c : Thread nD τ) (slot agB 0 1) fullShare (carry m (0, 4) (up 0 c))
          ∗ semVal (rcvCell c (0, 4)) 0
          ∗ owns (c : Thread nD τ) (slot agB 1 0) fullShare.left (carry m (1, 4) c)
          ∗ semVal (sndCell c (1, 4)) 0
          ∗ owns (c : Thread nD τ) (slot agB 1 1) fullShare (carry m (1, 4) (up 1 c))
          ∗ semVal (rcvCell c (1, 4)) 0
          ∗ Owe (F := F) c (debt c 10))
          -∗ runs c (k ⟨⟩) Q))
        -∗ runs c (k0_part22 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v5 v7 >>= k) Q) := by
  iintro ⟨#Hr, HD04, HO, HS14, HD14⟩ Hk
  simp only [k0_part22_eq_skeleton]
  unfold k0_part22_skel
  simp only [Prog.lift, Prog.bind_op, Prog.bind_ret, Prog.pure_eq_ret]
  iapply (wait_rcv m K c (0, 4) 10 (by decide) _ _ _ ?_ ?_) $$ [HD04 HO]
  · rfl
  · rfl
  · isplitr; · iexact Hr
    isplitl [HD04]; · iexact HD04
    iexact HO
  iintro ⟨Hag01, Hzr04, HO⟩
  iapply (wait_snd m K c (1, 4) 10 _ _ _ ?_ ?_) $$ [HS14 HO]
  · rfl
  · rfl
  · isplitr; · iexact Hr
    isplitl [HS14]; · iexact HS14
    iexact HO
  iintro ⟨Hag10L, Hzs14, HO⟩
  iapply (wait_rcv m K c (1, 4) 10 (by decide) _ _ _ ?_ ?_) $$ [HD14 HO]
  · rfl
  · rfl
  · isplitr; · iexact Hr
    isplitl [HD14]; · iexact HD14
    iexact HO
  iintro ⟨Hag11, Hzr14, HO⟩
  iapply Hk
  isplitl [Hag01]; · iexact Hag01
  isplitl [Hzr04]; · iexact Hzr04
  isplitl [Hag10L]; · iexact Hag10L
  isplitl [Hzs14]; · iexact Hzs14
  isplitl [Hag11]; · iexact Hag11
  isplitl [Hzr14]; · iexact Hzr14
  iexact HO

/-- Part 23: copied into the result. -/
theorem part_23 (c : Dev nD) (v2 : BitVec 32) (v7 : BitVec 32) {α : Type} {Q : α → sProp 𝕄} {k : ((PUnit)) → Prog (TpuEff nD τ sig (Elt F) Λ₀ .tc) α} :
    iprop(recs m K
        ∗ owns (c : Thread nD τ) (slot agB 0 1) fullShare (carry m (0, 4) (up 0 c))
        ∗ some_ (F := F) c (outRows (outChunk 0 2 c) 0)
        ∗ semVal ((c : Thread nD τ), .dma (outS 0 2)) 0
        ∗ owns (c : Thread nD τ) (slot agB 1 1) fullShare (carry m (1, 4) (up 1 c))
        ∗ some_ (F := F) c (outRows (outChunk 1 2 c) 1)
        ∗ semVal ((c : Thread nD τ), .dma (outS 1 2)) 0)
      ⊢ iprop((((owns (c : Thread nD τ) (slot agB 0 1) fullShare.left (carry m (0, 4) (up 0 c))
          ∗ outFly c 0 2 (outChunk 0 2 c) (slot agB 0 1) fullShare.right (carry m (0, 4) (up 0 c))
          ∗ owns (c : Thread nD τ) (slot agB 1 1) fullShare.left (carry m (1, 4) (up 1 c))
          ∗ outFly c 1 2 (outChunk 1 2 c) (slot agB 1 1) fullShare.right (carry m (1, 4) (up 1 c)))
          -∗ runs c (k ⟨⟩) Q))
        -∗ runs c (k0_part23 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 v7 >>= k) Q) := by
  iintro ⟨#Hr, Hag01, Hout02, Hzo02, Hag11, Hout12, Hzo12⟩ Hk
  simp only [k0_part23_eq_skeleton]
  unfold k0_part23_skel
  simp only [Prog.lift, Prog.bind_op, Prog.bind_ret, Prog.pure_eq_ret]
  ihave Hag01 := (owns_halve (F := F) c (slot agB 0 1) _) $$ Hag01
  icases Hag01 with ⟨Hag01L, Hag01R⟩
  iapply (out_start c 0 2 (outChunk 0 2 c) (slot agB 0 1) fullShare.right (carry m (0, 4) (up 0 c)) _ _ _ ?_ (outRows_of _ _ _ (out_0_2 c) _) ?_) $$ [Hag01R Hout02 Hzo02]
  · rfl
  · rfl
  · isplitl [Hag01R]; · iexact Hag01R
    isplitl [Hout02]; · iexact Hout02
    iexact Hzo02
  iintro HOF02
  ihave Hag11 := (owns_halve (F := F) c (slot agB 1 1) _) $$ Hag11
  icases Hag11 with ⟨Hag11L, Hag11R⟩
  iapply (out_start c 1 2 (outChunk 1 2 c) (slot agB 1 1) fullShare.right (carry m (1, 4) (up 1 c)) _ _ _ ?_ (outRows_of _ _ _ (out_1_2 c) _) ?_) $$ [Hag11R Hout12 Hzo12]
  · rfl
  · rfl
  · isplitl [Hag11R]; · iexact Hag11R
    isplitl [Hout12]; · iexact Hout12
    iexact Hzo12
  iintro HOF12
  iapply Hk
  isplitl [Hag01L]; · iexact Hag01L
  isplitl [HOF02]; · iexact HOF02
  isplitl [Hag11L]; · iexact Hag11L
  iexact HOF12

/-- Part 24: sent on. -/
theorem part_24 (c : Dev nD) (v5 : BitVec 32) {α : Type} {Q : α → sProp 𝕄} {k : ((PUnit)) → Prog (TpuEff nD τ sig (Elt F) Λ₀ .tc) α} :
    iprop(recs m K
        ∗ plan (F := F) c (0, 5)
        ∗ owns (c : Thread nD τ) (slot agB 0 1) fullShare.left (carry m (0, 4) (up 0 c))
        ∗ some_ (F := F) (dn 0 c) (landM (0, 5))
        ∗ Owe (F := F) c (debt c 10)
        ∗ plan (F := F) c (1, 5)
        ∗ owns (c : Thread nD τ) (slot agB 1 1) fullShare.left (carry m (1, 4) (up 1 c))
        ∗ some_ (F := F) (dn 1 c) (landM (1, 5)))
      ⊢ iprop((((due (F := F) c (0, 5)
          ∗ sent (F := F) c (1, 5)
          ∗ due (F := F) c (1, 5)
          ∗ owns (c : Thread nD τ) (slot agB 0 1) fullShare.left (carry m (0, 5) c)
          ∗ semVal (sndCell c (0, 5)) 0
          ∗ Owe (F := F) c (debt c 12))
          -∗ runs c (k ⟨⟩) Q))
        -∗ runs c (k0_part24 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v5 >>= k) Q) := by
  iintro ⟨#Hr, HP05, Hag01L, HL05, HO, HP15, Hag11L, HL15⟩ Hk
  simp only [k0_part24_eq_skeleton]
  unfold k0_part24_skel
  simp only [Prog.lift, Prog.bind_op, Prog.bind_ret, Prog.pure_eq_ret]
  iapply (send_core m K c _ (0, 5) (dev13_eq c) _ _ _ _ ?_ ?_ ?_ ?_) $$ [HP05 Hag01L HL05 HO]
  iterate 4 rfl
  · isplitr; · iexact Hr
    isplitl [HP05]; · iexact HP05
    isplitl [Hag01L]; · iexact Hag01L
    isplitl [HL05]; · iexact HL05
    iexact HO
  iintro ⟨HS05, HD05, HO⟩
  iapply (send_core m K c _ (1, 5) (dev14_eq c) _ _ _ _ ?_ ?_ ?_ ?_) $$ [HP15 Hag11L HL15 HO]
  iterate 4 rfl
  · isplitr; · iexact Hr
    isplitl [HP15]; · iexact HP15
    isplitl [Hag11L]; · iexact Hag11L
    isplitl [HL15]; · iexact HL15
    iexact HO
  iintro ⟨HS15, HD15, HO⟩
  iapply (wait_snd m K c (0, 5) 12 _ _ _ ?_ ?_) $$ [HS05 HO]
  · rfl
  · rfl
  · isplitr; · iexact Hr
    isplitl [HS05]; · iexact HS05
    iexact HO
  iintro ⟨Hag01L, Hzs05, HO⟩
  iapply Hk
  isplitl [HD05]; · iexact HD05
  isplitl [HS15]; · iexact HS15
  isplitl [HD15]; · iexact HD15
  isplitl [Hag01L]; · iexact Hag01L
  isplitl [Hzs05]; · iexact Hzs05
  iexact HO

/-- Part 25: the last gathered blocks received. -/
theorem part_25 (c : Dev nD) (v5 : BitVec 32) (v7 : BitVec 32) {α : Type} {Q : α → sProp 𝕄} {k : ((PUnit)) → Prog (TpuEff nD τ sig (Elt F) Λ₀ .tc) α} :
    iprop(recs m K
        ∗ due (F := F) c (0, 5)
        ∗ Owe (F := F) c (debt c 12)
        ∗ sent (F := F) c (1, 5)
        ∗ due (F := F) c (1, 5))
      ⊢ iprop((((owns (c : Thread nD τ) (slot agB 0 2) fullShare (carry m (0, 5) (up 0 c))
          ∗ semVal (rcvCell c (0, 5)) 0
          ∗ owns (c : Thread nD τ) (slot agB 1 1) fullShare.left (carry m (1, 5) c)
          ∗ semVal (sndCell c (1, 5)) 0
          ∗ owns (c : Thread nD τ) (slot agB 1 2) fullShare (carry m (1, 5) (up 1 c))
          ∗ semVal (rcvCell c (1, 5)) 0
          ∗ Owe (F := F) c (debt c 12))
          -∗ runs c (k ⟨⟩) Q))
        -∗ runs c (k0_part25 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 v5 v7 >>= k) Q) := by
  iintro ⟨#Hr, HD05, HO, HS15, HD15⟩ Hk
  simp only [k0_part25_eq_skeleton]
  unfold k0_part25_skel
  simp only [Prog.lift, Prog.bind_op, Prog.bind_ret, Prog.pure_eq_ret]
  iapply (wait_rcv m K c (0, 5) 12 (by decide) _ _ _ ?_ ?_) $$ [HD05 HO]
  · rfl
  · rfl
  · isplitr; · iexact Hr
    isplitl [HD05]; · iexact HD05
    iexact HO
  iintro ⟨Hag02, Hzr05, HO⟩
  iapply (wait_snd m K c (1, 5) 12 _ _ _ ?_ ?_) $$ [HS15 HO]
  · rfl
  · rfl
  · isplitr; · iexact Hr
    isplitl [HS15]; · iexact HS15
    iexact HO
  iintro ⟨Hag11L, Hzs15, HO⟩
  iapply (wait_rcv m K c (1, 5) 12 (by decide) _ _ _ ?_ ?_) $$ [HD15 HO]
  · rfl
  · rfl
  · isplitr; · iexact Hr
    isplitl [HD15]; · iexact HD15
    iexact HO
  iintro ⟨Hag12, Hzr15, HO⟩
  iapply Hk
  isplitl [Hag02]; · iexact Hag02
  isplitl [Hzr05]; · iexact Hzr05
  isplitl [Hag11L]; · iexact Hag11L
  isplitl [Hzs15]; · iexact Hzs15
  isplitl [Hag12]; · iexact Hag12
  isplitl [Hzr15]; · iexact Hzr15
  iexact HO

/-- Part 26: copied into the result; the first of those copies waited for. -/
theorem part_26 (c : Dev nD) (v2 : BitVec 32) {α : Type} {Q : α → sProp 𝕄} {k : ((PUnit)) → Prog (TpuEff nD τ sig (Elt F) Λ₀ .tc) α} :
    iprop(recs m K
        ∗ owns (c : Thread nD τ) (slot agB 0 2) fullShare (carry m (0, 5) (up 0 c))
        ∗ some_ (F := F) c (outRows (outChunk 0 3 c) 0)
        ∗ semVal ((c : Thread nD τ), .dma (outS 0 3)) 0
        ∗ owns (c : Thread nD τ) (slot agB 1 2) fullShare (carry m (1, 5) (up 1 c))
        ∗ some_ (F := F) c (outRows (outChunk 1 3 c) 1)
        ∗ semVal ((c : Thread nD τ), .dma (outS 1 3)) 0
        ∗ outFly c 0 0 (outChunk 0 0 c) (slot stageB 0 2) fullShare.right (carry m (0, 3) c)
        ∗ Owe (F := F) c (debt c 12))
      ⊢ iprop((((outFly c 0 3 (outChunk 0 3 c) (slot agB 0 2) fullShare (carry m (0, 5) (up 0 c))
          ∗ outFly c 1 3 (outChunk 1 3 c) (slot agB 1 2) fullShare (carry m (1, 5) (up 1 c))
          ∗ owns (c : Thread nD τ) (outRows (outChunk 0 0 c) 0) fullShare (carry m (0, 3) c)
          ∗ owns (c : Thread nD τ) (slot stageB 0 2) fullShare.right (carry m (0, 3) c)
          ∗ semVal ((c : Thread nD τ), .dma (outS 0 0)) 0
          ∗ Owe (F := F) c (debt c 12))
          -∗ runs c (k ⟨⟩) Q))
        -∗ runs c (k0_part26 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c v2 >>= k) Q) := by
  iintro ⟨#Hr, Hag02, Hout03, Hzo03, Hag12, Hout13, Hzo13, HOF00, HO⟩ Hk
  simp only [k0_part26_eq_skeleton]
  unfold k0_part26_skel
  simp only [Prog.lift, Prog.bind_op, Prog.bind_ret, Prog.pure_eq_ret]
  iapply (out_start c 0 3 (outChunk 0 3 c) (slot agB 0 2) fullShare (carry m (0, 5) (up 0 c)) _ _ _ ?_ (outRows_of _ _ _ (out_0_3 c) _) ?_) $$ [Hag02 Hout03 Hzo03]
  · rfl
  · rfl
  · isplitl [Hag02]; · iexact Hag02
    isplitl [Hout03]; · iexact Hout03
    iexact Hzo03
  iintro HOF03
  iapply (out_start c 1 3 (outChunk 1 3 c) (slot agB 1 2) fullShare (carry m (1, 5) (up 1 c)) _ _ _ ?_ (outRows_of _ _ _ (out_1_3 c) _) ?_) $$ [Hag12 Hout13 Hzo13]
  · rfl
  · rfl
  · isplitl [Hag12]; · iexact Hag12
    isplitl [Hout13]; · iexact Hout13
    iexact Hzo13
  iintro HOF13
  iapply (out_wait m K c 0 0 (outChunk 0 0 c) (slot stageB 0 2) fullShare.right (carry m (0, 3) c) 12 _ _ _ ?_ ?_) $$ [HOF00 HO]
  · rfl
  · rfl
  · isplitr; · iexact Hr
    isplitl [HOF00]; · iexact HOF00
    iexact HO
  iintro ⟨Hout00, Hst02R, Hzo00, HO⟩
  iapply Hk
  isplitl [HOF03]; · iexact HOF03
  isplitl [HOF13]; · iexact HOF13
  isplitl [Hout00]; · iexact Hout00
  isplitl [Hst02R]; · iexact Hst02R
  isplitl [Hzo00]; · iexact Hzo00
  iexact HO

/-- Part 27: five more of them waited for. -/
theorem part_27 (c : Dev nD)  {α : Type} {Q : α → sProp 𝕄} {k : ((PUnit)) → Prog (TpuEff nD τ sig (Elt F) Λ₀ .tc) α} :
    iprop(recs m K
        ∗ outFly c 1 0 (outChunk 1 0 c) (slot stageB 1 2) fullShare.right (carry m (1, 3) c)
        ∗ Owe (F := F) c (debt c 12)
        ∗ outFly c 0 1 (outChunk 0 1 c) (slot agB 0 0) fullShare.right (carry m (0, 3) (up 0 c))
        ∗ outFly c 1 1 (outChunk 1 1 c) (slot agB 1 0) fullShare.right (carry m (1, 3) (up 1 c))
        ∗ outFly c 0 2 (outChunk 0 2 c) (slot agB 0 1) fullShare.right (carry m (0, 4) (up 0 c)))
      ⊢ iprop((((owns (c : Thread nD τ) (outRows (outChunk 1 0 c) 1) fullShare (carry m (1, 3) c)
          ∗ owns (c : Thread nD τ) (slot stageB 1 2) fullShare.right (carry m (1, 3) c)
          ∗ semVal ((c : Thread nD τ), .dma (outS 1 0)) 0
          ∗ owns (c : Thread nD τ) (outRows (outChunk 0 1 c) 0) fullShare (carry m (0, 3) (up 0 c))
          ∗ owns (c : Thread nD τ) (slot agB 0 0) fullShare.right (carry m (0, 3) (up 0 c))
          ∗ semVal ((c : Thread nD τ), .dma (outS 0 1)) 0
          ∗ owns (c : Thread nD τ) (outRows (outChunk 1 1 c) 1) fullShare (carry m (1, 3) (up 1 c))
          ∗ owns (c : Thread nD τ) (slot agB 1 0) fullShare.right (carry m (1, 3) (up 1 c))
          ∗ semVal ((c : Thread nD τ), .dma (outS 1 1)) 0
          ∗ owns (c : Thread nD τ) (outRows (outChunk 0 2 c) 0) fullShare (carry m (0, 4) (up 0 c))
          ∗ owns (c : Thread nD τ) (slot agB 0 1) fullShare.right (carry m (0, 4) (up 0 c))
          ∗ semVal ((c : Thread nD τ), .dma (outS 0 2)) 0
          ∗ Owe (F := F) c (debt c 12))
          -∗ runs c (k ⟨⟩) Q))
        -∗ runs c (k0_part27 (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 c >>= k) Q) := by
  iintro ⟨#Hr, HOF10, HO, HOF01, HOF11, HOF02⟩ Hk
  simp only [k0_part27_eq_skeleton]
  unfold k0_part27_skel
  simp only [Prog.lift, Prog.bind_op, Prog.bind_ret, Prog.pure_eq_ret]
  iapply (out_wait m K c 1 0 (outChunk 1 0 c) (slot stageB 1 2) fullShare.right (carry m (1, 3) c) 12 _ _ _ ?_ ?_) $$ [HOF10 HO]
  · rfl
  · rfl
  · isplitr; · iexact Hr
    isplitl [HOF10]; · iexact HOF10
    iexact HO
  iintro ⟨Hout10, Hst12R, Hzo10, HO⟩
  iapply (out_wait m K c 0 1 (outChunk 0 1 c) (slot agB 0 0) fullShare.right (carry m (0, 3) (up 0 c)) 12 _ _ _ ?_ ?_) $$ [HOF01 HO]
  · rfl
  · rfl
  · isplitr; · iexact Hr
    isplitl [HOF01]; · iexact HOF01
    iexact HO
  iintro ⟨Hout01, Hag00R, Hzo01, HO⟩
  iapply (out_wait m K c 1 1 (outChunk 1 1 c) (slot agB 1 0) fullShare.right (carry m (1, 3) (up 1 c)) 12 _ _ _ ?_ ?_) $$ [HOF11 HO]
  · rfl
  · rfl
  · isplitr; · iexact Hr
    isplitl [HOF11]; · iexact HOF11
    iexact HO
  iintro ⟨Hout11, Hag10R, Hzo11, HO⟩
  iapply (out_wait m K c 0 2 (outChunk 0 2 c) (slot agB 0 1) fullShare.right (carry m (0, 4) (up 0 c)) 12 _ _ _ ?_ ?_) $$ [HOF02 HO]
  · rfl
  · rfl
  · isplitr; · iexact Hr
    isplitl [HOF02]; · iexact HOF02
    iexact HO
  iintro ⟨Hout02, Hag01R, Hzo02, HO⟩
  iapply Hk
  isplitl [Hout10]; · iexact Hout10
  isplitl [Hst12R]; · iexact Hst12R
  isplitl [Hzo10]; · iexact Hzo10
  isplitl [Hout01]; · iexact Hout01
  isplitl [Hag00R]; · iexact Hag00R
  isplitl [Hzo01]; · iexact Hzo01
  isplitl [Hout11]; · iexact Hout11
  isplitl [Hag10R]; · iexact Hag10R
  isplitl [Hzo11]; · iexact Hzo11
  isplitl [Hout02]; · iexact Hout02
  isplitl [Hag01R]; · iexact Hag01R
  isplitl [Hzo02]; · iexact Hzo02
  iexact HO

end Cert.TwoWay

end
-- ==== Proof.Body.lean ====
/-
# The body of the kernel

The parts of `Reduce1` to `Gather` joined: from everything a device holds at the start to everything it holds at the end, with the
result's eight blocks holding the sums that came around the ring.
-/
module

public import proofs.«01_k».proof.Proof.Bufs
public import proofs.«01_k».proof.Proof.Reduce1
public import proofs.«01_k».proof.Proof.Reduce2
public import proofs.«01_k».proof.Proof.Reduce3
public import proofs.«01_k».proof.Proof.Gather

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-- What device `c` holds when the body starts, besides the records. -/
def begin_ (c : Dev nD) : sProp 𝕄 :=
  iprop(barPlan c ∗ (bigSep Finset.univ fun h : Hop => plan c h)
    ∗ whole_ c cc0_scratch0 ∗ whole_ c cc0_scratch1 ∗ whole_ c cc0_scratch2 ∗ whole_ c cc0_scratch3 ∗ whole_ c cc0_scratch4 ∗ whole_ c main_v1
    ∗ (bigSep Finset.univ fun d : Fin 2 => xPts m c d) ∗ (bigSep Finset.univ fun d : Fin 2 => semVal ((c : Thread nD τ), .dma (xS d)) 0)
    ∗ (bigSep Finset.univ fun x : Fin 2 × Fin 4 => semVal ((c : Thread nD τ), .dma (outS x.1 x.2)) 0)
    ∗ wAt c cc0_stg0_0 (Wa m c) ∗ wAt c cc0_stg1_0 (Wb m c) ∗ Owe c (debt₀ c))

/-- What it holds when the body ends. -/
def end_ (c : Dev nD) : sProp 𝕄 :=
  iprop((bigSep Finset.univ fun h : Hop => semVal (sndCell c h) 0) ∗ (bigSep Finset.univ fun h : Hop => semVal (rcvCell c h) 0) ∗ semVal (barCell c) 0
    ∗ whole_ c cc0_scratch0 ∗ whole_ c cc0_scratch1 ∗ whole_ c cc0_scratch2 ∗ whole_ c cc0_scratch3 ∗ whole_ c cc0_scratch4
    ∗ (∃ g : Buf (Elt F) ((c : Thread nD τ).loc main_v1), ⌜Pieces m c g⌝ ∗ ((c : Thread nD τ).loc main_v1) ↦{fullShare} g)
    ∗ (bigSep Finset.univ fun d : Fin 2 => xPts m c d) ∗ (bigSep Finset.univ fun d : Fin 2 => semVal ((c : Thread nD τ), .dma (xS d)) 0)
    ∗ (bigSep Finset.univ fun x : Fin 2 × Fin 4 => semVal ((c : Thread nD τ), .dma (outS x.1 x.2)) 0)
    ∗ wAt c cc0_stg0_0 (Wa m c) ∗ wAt c cc0_stg1_0 (Wb m c) ∗ Owe c (debt c 12))

/-- A program that has ended. -/
theorem runs_ret (c : Dev nD) {α : Type} (x : α) (Q : α → sProp 𝕄) : Q x ⊢ runs c (.ret x) Q := by
  show Q x ⊢ wp frame (wpE (defs₀ (F := F)) 𝒱₀ (c : Thread nD τ) none) Set.univ (.ret x) Q
  rw [wp_ret]
  iintro H; imodintro; iexact H

set_option maxRecDepth 65536 in
/-- The body, from start to end. -/
theorem body (c : Dev nD) {Q : PUnit → sProp 𝕄} :
    iprop(recs m K ∗ begin_ m c)
      ⊢ iprop((end_ m c -∗ Q ⟨⟩) -∗ runs c (cc0__fused_body (Memref.whole main_arg0) (Memref.isWhole_whole _) (Memref.whole cc0_stg0_0) (Memref.isWhole_whole _) (Memref.whole cc0_stg1_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10) Q) := by
  unfold begin_
  iintro ⟨#Hr, Hbar, HP, Hxm, Hsd, Hst, Hrs, Hag, Hout, HX, Hzx, Hzo, HWA, HWB, HO⟩ Hk
  ihave Hla := (land_open (F := F) c) $$ [Hrs Hag]
  · isplitl [Hrs]; · iexact Hrs
    iexact Hag
  icases Hla with ⟨Hla0, Hla1⟩
  ihave HP := (Entails.of_eq (sep_hops _)) $$ HP
  icases HP with ⟨HP00, HP01, HP02, HP03, HP04, HP05, HP10, HP11, HP12, HP13, HP14, HP15⟩
  ihave Hxm := ((x_open (F := F) c).trans (Entails.of_eq (sep_two _))) $$ Hxm
  icases Hxm with ⟨Hxm0, Hxm1⟩
  ihave Hsd := ((seed_open (F := F) c).trans (Entails.of_eq (sep_two _))) $$ Hsd
  icases Hsd with ⟨Hsd0, Hsd1⟩
  ihave Hst := ((stage_open (F := F) c).trans (Entails.of_eq (sep_six _))) $$ Hst
  icases Hst with ⟨Hst00, Hst01, Hst02, Hst10, Hst11, Hst12⟩
  ihave Hout := ((result_open (F := F) c).trans (Entails.of_eq (sep_eight _))) $$ Hout
  icases Hout with ⟨Hout00, Hout01, Hout02, Hout03, Hout10, Hout11, Hout12, Hout13⟩
  ihave HX := (Entails.of_eq (sep_two _)) $$ HX
  icases HX with ⟨HX0, HX1⟩
  ihave Hzx := (Entails.of_eq (sep_two _)) $$ Hzx
  icases Hzx with ⟨Hzx0, Hzx1⟩
  ihave Hzo := (Entails.of_eq (sep_eight _)) $$ Hzo
  icases Hzo with ⟨Hzo00, Hzo01, Hzo02, Hzo03, Hzo10, Hzo11, Hzo12, Hzo13⟩
  rw [cc0__fused_body_eq_skeleton]
  unfold cc0__fused_body_skel
  iapply (part_1 m K c ) $$ [Hbar Hla0 Hla1 HO Hxm0 HX0 Hzx0]
  · isplitr; · iexact Hr
    isplitl [Hbar]; · iexact Hbar
    isplitl [Hla0]; · iexact Hla0
    isplitl [Hla1]; · iexact Hla1
    isplitl [HO]; · iexact HO
    isplitl [Hxm0]; · iexact Hxm0
    isplitl [HX0]; · iexact HX0
    iexact Hzx0
  iintro %v2 %v5 %v7 ⟨HL00, HL01, HL02, HL03, HL04, HL05, HL10, HL11, HL12, HL13, HL14, HL15, Hzb, HO, HXF0⟩
  iapply (part_2 m K c _) $$ [Hxm1 HX1 Hzx1 HXF0 HO HWA HWB Hsd0]
  · isplitr; · iexact Hr
    isplitl [Hxm1]; · iexact Hxm1
    isplitl [HX1]; · iexact HX1
    isplitl [Hzx1]; · iexact Hzx1
    isplitl [HXF0]; · iexact HXF0
    isplitl [HO]; · iexact HO
    isplitl [HWA]; · iexact HWA
    isplitl [HWB]; · iexact HWB
    iexact Hsd0
  iintro ⟨HXF1, HX0, Hxm0, Hzx0, HO, HWA, HWB, Hsd0⟩
  iapply (part_3 m K c _) $$ [HP00 Hsd0 HL00 HO HXF1 HWA HWB Hsd1]
  · isplitr; · iexact Hr
    isplitl [HP00]; · iexact HP00
    isplitl [Hsd0]; · iexact Hsd0
    isplitl [HL00]; · iexact HL00
    isplitl [HO]; · iexact HO
    isplitl [HXF1]; · iexact HXF1
    isplitl [HWA]; · iexact HWA
    isplitl [HWB]; · iexact HWB
    iexact Hsd1
  iintro ⟨HS00, HD00, HX1, Hxm1, Hzx1, HO, HWA, HWB, Hsd1⟩
  iapply (part_4 m K c _) $$ [HP10 Hsd1 HL10 HO Hxm0 HX0 Hzx0 Hxm1 HX1 Hzx1]
  · isplitr; · iexact Hr
    isplitl [HP10]; · iexact HP10
    isplitl [Hsd1]; · iexact Hsd1
    isplitl [HL10]; · iexact HL10
    isplitl [HO]; · iexact HO
    isplitl [Hxm0]; · iexact Hxm0
    isplitl [HX0]; · iexact HX0
    isplitl [Hzx0]; · iexact Hzx0
    isplitl [Hxm1]; · iexact Hxm1
    isplitl [HX1]; · iexact HX1
    iexact Hzx1
  iintro ⟨HS10, HD10, HO, HXF0, HXF1⟩
  iapply (part_5 m K c ) $$ [HXF0 HO HWA HWB HXF1]
  · isplitr; · iexact Hr
    isplitl [HXF0]; · iexact HXF0
    isplitl [HO]; · iexact HO
    isplitl [HWA]; · iexact HWA
    isplitl [HWB]; · iexact HWB
    iexact HXF1
  iintro ⟨HX0, Hxm0, Hzx0, HWA, HWB, HX1, Hxm1, Hzx1, HO⟩
  iapply (part_6 m K c _) $$ [HS00 HO HD00 HS10]
  · isplitr; · iexact Hr
    isplitl [HS00]; · iexact HS00
    isplitl [HO]; · iexact HO
    isplitl [HD00]; · iexact HD00
    iexact HS10
  iintro ⟨Hsd0, Hzs00, Hrs00, Hzr00, Hsd1, Hzs10, HO⟩
  iapply (part_7 m K c _) $$ [HD10 HO Hrs00 Hst00 Hst10]
  · isplitr; · iexact Hr
    isplitl [HD10]; · iexact HD10
    isplitl [HO]; · iexact HO
    isplitl [Hrs00]; · iexact Hrs00
    isplitl [Hst00]; · iexact Hst00
    iexact Hst10
  iintro ⟨Hrs10, Hzr10, HO, Hrs00, Hst00, Hst10⟩
  iapply (part_8 m K c _ _ _) $$ [HP01 Hst00 HL01 HO HP11 Hst10 HL11]
  · isplitr; · iexact Hr
    isplitl [HP01]; · iexact HP01
    isplitl [Hst00]; · iexact Hst00
    isplitl [HL01]; · iexact HL01
    isplitl [HO]; · iexact HO
    isplitl [HP11]; · iexact HP11
    isplitl [Hst10]; · iexact Hst10
    iexact HL11
  iintro %v210 ⟨HS01, HD01, HS11, HD11, HO⟩
  iapply (part_9 m K c _) $$ [Hxm0 HX0 Hzx0 Hxm1 HX1 Hzx1 HO HWA HWB]
  · isplitr; · iexact Hr
    isplitl [Hxm0]; · iexact Hxm0
    isplitl [HX0]; · iexact HX0
    isplitl [Hzx0]; · iexact Hzx0
    isplitl [Hxm1]; · iexact Hxm1
    isplitl [HX1]; · iexact HX1
    isplitl [Hzx1]; · iexact Hzx1
    isplitl [HO]; · iexact HO
    isplitl [HWA]; · iexact HWA
    iexact HWB
  iintro ⟨HXF1, HX0, Hxm0, Hzx0, HO, HWA, HWB⟩
  iapply (part_10 m K c _) $$ [HXF1 HO HWA HWB HS01]
  · isplitr; · iexact Hr
    isplitl [HXF1]; · iexact HXF1
    isplitl [HO]; · iexact HO
    isplitl [HWA]; · iexact HWA
    isplitl [HWB]; · iexact HWB
    iexact HS01
  iintro %v265 ⟨HX1, Hxm1, Hzx1, HWA, HWB, Hst00, Hzs01, HO⟩
  iapply (part_11 m K c _ _) $$ [HD01 HO HS11 HD11]
  · isplitr; · iexact Hr
    isplitl [HD01]; · iexact HD01
    isplitl [HO]; · iexact HO
    isplitl [HS11]; · iexact HS11
    iexact HD11
  iintro ⟨Hrs01, Hzr01, Hst10, Hzs11, Hrs11, Hzr11, HO⟩
  iapply (part_12 m K c _) $$ [Hrs01 Hrs11 Hst01 Hst11 HP02 HL02 HO]
  · isplitr; · iexact Hr
    isplitl [Hrs01]; · iexact Hrs01
    isplitl [Hrs11]; · iexact Hrs11
    isplitl [Hst01]; · iexact Hst01
    isplitl [Hst11]; · iexact Hst11
    isplitl [HP02]; · iexact HP02
    isplitl [HL02]; · iexact HL02
    iexact HO
  iintro ⟨Hrs01, Hrs11, Hst11, HS02, HD02, HO⟩
  iapply (part_13 m K c _ _) $$ [HP12 Hst11 HL12 HO Hxm0 HX0 Hzx0 Hxm1 HX1 Hzx1]
  · isplitr; · iexact Hr
    isplitl [HP12]; · iexact HP12
    isplitl [Hst11]; · iexact Hst11
    isplitl [HL12]; · iexact HL12
    isplitl [HO]; · iexact HO
    isplitl [Hxm0]; · iexact Hxm0
    isplitl [HX0]; · iexact HX0
    isplitl [Hzx0]; · iexact Hzx0
    isplitl [Hxm1]; · iexact Hxm1
    isplitl [HX1]; · iexact HX1
    iexact Hzx1
  iintro ⟨HS12, HD12, HO, HXF0, HXF1⟩
  iapply (part_14 m K c ) $$ [HXF0 HO HWA HWB HXF1]
  · isplitr; · iexact Hr
    isplitl [HXF0]; · iexact HXF0
    isplitl [HO]; · iexact HO
    isplitl [HWA]; · iexact HWA
    isplitl [HWB]; · iexact HWB
    iexact HXF1
  iintro ⟨HX0, Hxm0, Hzx0, HWA, HWB, HX1, Hxm1, Hzx1, HO⟩
  iapply (part_15 m K c _) $$ [HWB HS02 HO HD02]
  · isplitr; · iexact Hr
    isplitl [HWB]; · iexact HWB
    isplitl [HS02]; · iexact HS02
    isplitl [HO]; · iexact HO
    iexact HD02
  iintro ⟨HWB, Hst01, Hzs02, Hrs02, Hzr02, HO⟩
  iapply (part_16 m K c _) $$ [HS12 HO HD12 Hrs02 Hst02]
  · isplitr; · iexact Hr
    isplitl [HS12]; · iexact HS12
    isplitl [HO]; · iexact HO
    isplitl [HD12]; · iexact HD12
    isplitl [Hrs02]; · iexact Hrs02
    iexact Hst02
  iintro ⟨Hst11, Hzs12, Hrs12, Hzr12, HO, Hrs02, Hst02⟩
  iapply (part_17 m K c _ _ _) $$ [Hst12 Hst02 Hout00 Hzo00 Hout10 Hzo10]
  · isplitr; · iexact Hr
    isplitl [Hst12]; · iexact Hst12
    isplitl [Hst02]; · iexact Hst02
    isplitl [Hout00]; · iexact Hout00
    isplitl [Hzo00]; · iexact Hzo00
    isplitl [Hout10]; · iexact Hout10
    iexact Hzo10
  iintro ⟨Hst02L, HOF00, Hst12L, HOF10⟩
  iapply (part_18 m K c _) $$ [HP03 Hst02L HL03 HO HP13 Hst12L HL13]
  · isplitr; · iexact Hr
    isplitl [HP03]; · iexact HP03
    isplitl [Hst02L]; · iexact Hst02L
    isplitl [HL03]; · iexact HL03
    isplitl [HO]; · iexact HO
    isplitl [HP13]; · iexact HP13
    isplitl [Hst12L]; · iexact Hst12L
    iexact HL13
  iintro ⟨HD03, HS13, HD13, Hst02L, Hzs03, HO⟩
  iapply (part_19 m K c _ _) $$ [HD03 HO HS13 HD13]
  · isplitr; · iexact Hr
    isplitl [HD03]; · iexact HD03
    isplitl [HO]; · iexact HO
    isplitl [HS13]; · iexact HS13
    iexact HD13
  iintro ⟨Hag00, Hzr03, Hst12L, Hzs13, Hag10, Hzr13, HO⟩
  iapply (part_20 m K c _ _) $$ [Hag00 Hout01 Hzo01 Hag10 Hout11 Hzo11]
  · isplitr; · iexact Hr
    isplitl [Hag00]; · iexact Hag00
    isplitl [Hout01]; · iexact Hout01
    isplitl [Hzo01]; · iexact Hzo01
    isplitl [Hag10]; · iexact Hag10
    isplitl [Hout11]; · iexact Hout11
    iexact Hzo11
  iintro ⟨Hag00L, HOF01, Hag10L, HOF11⟩
  iapply (part_21 m K c _) $$ [HP04 Hag00L HL04 HO HP14 Hag10L HL14]
  · isplitr; · iexact Hr
    isplitl [HP04]; · iexact HP04
    isplitl [Hag00L]; · iexact Hag00L
    isplitl [HL04]; · iexact HL04
    isplitl [HO]; · iexact HO
    isplitl [HP14]; · iexact HP14
    isplitl [Hag10L]; · iexact Hag10L
    iexact HL14
  iintro ⟨HD04, HS14, HD14, Hag00L, Hzs04, HO⟩
  iapply (part_22 m K c _ _) $$ [HD04 HO HS14 HD14]
  · isplitr; · iexact Hr
    isplitl [HD04]; · iexact HD04
    isplitl [HO]; · iexact HO
    isplitl [HS14]; · iexact HS14
    iexact HD14
  iintro ⟨Hag01, Hzr04, Hag10L, Hzs14, Hag11, Hzr14, HO⟩
  iapply (part_23 m K c _ _) $$ [Hag01 Hout02 Hzo02 Hag11 Hout12 Hzo12]
  · isplitr; · iexact Hr
    isplitl [Hag01]; · iexact Hag01
    isplitl [Hout02]; · iexact Hout02
    isplitl [Hzo02]; · iexact Hzo02
    isplitl [Hag11]; · iexact Hag11
    isplitl [Hout12]; · iexact Hout12
    iexact Hzo12
  iintro ⟨Hag01L, HOF02, Hag11L, HOF12⟩
  iapply (part_24 m K c _) $$ [HP05 Hag01L HL05 HO HP15 Hag11L HL15]
  · isplitr; · iexact Hr
    isplitl [HP05]; · iexact HP05
    isplitl [Hag01L]; · iexact Hag01L
    isplitl [HL05]; · iexact HL05
    isplitl [HO]; · iexact HO
    isplitl [HP15]; · iexact HP15
    isplitl [Hag11L]; · iexact Hag11L
    iexact HL15
  iintro ⟨HD05, HS15, HD15, Hag01L, Hzs05, HO⟩
  iapply (part_25 m K c _ _) $$ [HD05 HO HS15 HD15]
  · isplitr; · iexact Hr
    isplitl [HD05]; · iexact HD05
    isplitl [HO]; · iexact HO
    isplitl [HS15]; · iexact HS15
    iexact HD15
  iintro ⟨Hag02, Hzr05, Hag11L, Hzs15, Hag12, Hzr15, HO⟩
  iapply (part_26 m K c _) $$ [Hag02 Hout03 Hzo03 Hag12 Hout13 Hzo13 HOF00 HO]
  · isplitr; · iexact Hr
    isplitl [Hag02]; · iexact Hag02
    isplitl [Hout03]; · iexact Hout03
    isplitl [Hzo03]; · iexact Hzo03
    isplitl [Hag12]; · iexact Hag12
    isplitl [Hout13]; · iexact Hout13
    isplitl [Hzo13]; · iexact Hzo13
    isplitl [HOF00]; · iexact HOF00
    iexact HO
  iintro ⟨HOF03, HOF13, Hout00, Hst02R, Hzo00, HO⟩
  iapply (part_27 m K c ) $$ [HOF10 HO HOF01 HOF11 HOF02]
  · isplitr; · iexact Hr
    isplitl [HOF10]; · iexact HOF10
    isplitl [HO]; · iexact HO
    isplitl [HOF01]; · iexact HOF01
    isplitl [HOF11]; · iexact HOF11
    iexact HOF02
  iintro ⟨Hout10, Hst12R, Hzo10, Hout01, Hag00R, Hzo01, Hout11, Hag10R, Hzo11, Hout02, Hag01R, Hzo02, HO⟩
  simp only [Prog.lift, Prog.bind_op, Prog.bind_ret, Prog.pure_eq_ret]
  iapply (out_wait m K c 1 2 (outChunk 1 2 c) (slot agB 1 1) fullShare.right (carry m (1, 4) (up 1 c)) 12 _ _ _ ?_ ?_) $$ [HOF12 HO]
  · rfl
  · rfl
  · isplitr; · iexact Hr
    isplitl [HOF12]; · iexact HOF12
    iexact HO
  iintro ⟨Hout12, Hag11R, Hzo12, HO⟩
  iapply (out_wait m K c 0 3 (outChunk 0 3 c) (slot agB 0 2) fullShare (carry m (0, 5) (up 0 c)) 12 _ _ _ ?_ ?_) $$ [HOF03 HO]
  · rfl
  · rfl
  · isplitr; · iexact Hr
    isplitl [HOF03]; · iexact HOF03
    iexact HO
  iintro ⟨Hout03, Hag02, Hzo03, HO⟩
  iapply (out_wait m K c 1 3 (outChunk 1 3 c) (slot agB 1 2) fullShare (carry m (1, 5) (up 1 c)) 12 _ _ _ ?_ ?_) $$ [HOF13 HO]
  · rfl
  · rfl
  · isplitr; · iexact Hr
    isplitl [HOF13]; · iexact HOF13
    iexact HO
  iintro ⟨Hout13, Hag12, Hzo13, HO⟩
  iapply (runs_ret (F := F) c PUnit.unit Q)
  iapply Hk
  ihave Hxm0 := (owns_some (F := F) c (xM 0) (Xb m c (chunk 0 2 c) 0)) $$ Hxm0
  ihave Hsd0 := (owns_some (F := F) c (seedM 0) (carry m (0, 0) c)) $$ Hsd0
  ihave Hst00 := (owns_some (F := F) c (slot stageB 0 0) (carry m (0, 1) c)) $$ Hst00
  ihave Hst01 := (owns_some (F := F) c (slot stageB 0 1) (carry m (0, 2) c)) $$ Hst01
  ihave Hst02 := (owns_whole_some (F := F) c (slot stageB 0 2) (carry m (0, 3) c)) $$ [Hst02L Hst02R]
  · isplitl [Hst02L]; · iexact Hst02L
    iexact Hst02R
  ihave Hrs00 := (owns_some (F := F) c (slot rsB 0 0) (carry m (0, 0) (up 0 c))) $$ Hrs00
  ihave Hrs01 := (owns_some (F := F) c (slot rsB 0 1) (carry m (0, 1) (up 0 c))) $$ Hrs01
  ihave Hrs02 := (owns_some (F := F) c (slot rsB 0 2) (carry m (0, 2) (up 0 c))) $$ Hrs02
  ihave Hag00 := (owns_whole_some (F := F) c (slot agB 0 0) (carry m (0, 4) c)) $$ [Hag00L Hag00R]
  · isplitl [Hag00L]; · iexact Hag00L
    iexact Hag00R
  ihave Hag01 := (owns_whole_some (F := F) c (slot agB 0 1) (carry m (0, 5) c)) $$ [Hag01L Hag01R]
  · isplitl [Hag01L]; · iexact Hag01L
    iexact Hag01R
  ihave Hag02 := (owns_some (F := F) c (slot agB 0 2) (carry m (0, 5) (up 0 c))) $$ Hag02
  ihave Hxm1 := (owns_some (F := F) c (xM 1) (Xb m c (chunk 1 2 c) 1)) $$ Hxm1
  ihave Hsd1 := (owns_some (F := F) c (seedM 1) (carry m (1, 0) c)) $$ Hsd1
  ihave Hst10 := (owns_some (F := F) c (slot stageB 1 0) (carry m (1, 1) c)) $$ Hst10
  ihave Hst11 := (owns_some (F := F) c (slot stageB 1 1) (carry m (1, 2) c)) $$ Hst11
  ihave Hst12 := (owns_whole_some (F := F) c (slot stageB 1 2) (carry m (1, 3) c)) $$ [Hst12L Hst12R]
  · isplitl [Hst12L]; · iexact Hst12L
    iexact Hst12R
  ihave Hrs10 := (owns_some (F := F) c (slot rsB 1 0) (carry m (1, 0) (up 1 c))) $$ Hrs10
  ihave Hrs11 := (owns_some (F := F) c (slot rsB 1 1) (carry m (1, 1) (up 1 c))) $$ Hrs11
  ihave Hrs12 := (owns_some (F := F) c (slot rsB 1 2) (carry m (1, 2) (up 1 c))) $$ Hrs12
  ihave Hag10 := (owns_whole_some (F := F) c (slot agB 1 0) (carry m (1, 4) c)) $$ [Hag10L Hag10R]
  · isplitl [Hag10L]; · iexact Hag10L
    iexact Hag10R
  ihave Hag11 := (owns_whole_some (F := F) c (slot agB 1 1) (carry m (1, 5) c)) $$ [Hag11L Hag11R]
  · isplitl [Hag11L]; · iexact Hag11L
    iexact Hag11R
  ihave Hag12 := (owns_some (F := F) c (slot agB 1 2) (carry m (1, 5) (up 1 c))) $$ Hag12
  ihave Hxm := ((Entails.of_eq (sep_two (F := F) fun d => some_ c (xM d)).symm).trans (x_close c)) $$ [Hxm0 Hxm1]
  · isplitl [Hxm0]; · iexact Hxm0
    iexact Hxm1
  ihave Hsd := ((Entails.of_eq (sep_two (F := F) fun d => some_ c (seedM d)).symm).trans (seed_close c)) $$ [Hsd0 Hsd1]
  · isplitl [Hsd0]; · iexact Hsd0
    iexact Hsd1
  ihave Hst := ((Entails.of_eq (sep_six (F := F) fun x => some_ c (slot stageB x.1 x.2)).symm).trans (stage_close c)) $$ [Hst00 Hst01 Hst02 Hst10 Hst11 Hst12]
  · isplitl [Hst00]; · iexact Hst00
    isplitl [Hst01]; · iexact Hst01
    isplitl [Hst02]; · iexact Hst02
    isplitl [Hst10]; · iexact Hst10
    isplitl [Hst11]; · iexact Hst11
    iexact Hst12
  ihave Hrs := ((Entails.of_eq (sep_six (F := F) fun x => some_ c (slot rsB x.1 x.2)).symm).trans (rs_close c)) $$ [Hrs00 Hrs01 Hrs02 Hrs10 Hrs11 Hrs12]
  · isplitl [Hrs00]; · iexact Hrs00
    isplitl [Hrs01]; · iexact Hrs01
    isplitl [Hrs02]; · iexact Hrs02
    isplitl [Hrs10]; · iexact Hrs10
    isplitl [Hrs11]; · iexact Hrs11
    iexact Hrs12
  ihave Hag := ((Entails.of_eq (sep_six (F := F) fun x => some_ c (slot agB x.1 x.2)).symm).trans (ag_close c)) $$ [Hag00 Hag01 Hag02 Hag10 Hag11 Hag12]
  · isplitl [Hag00]; · iexact Hag00
    isplitl [Hag01]; · iexact Hag01
    isplitl [Hag02]; · iexact Hag02
    isplitl [Hag10]; · iexact Hag10
    isplitl [Hag11]; · iexact Hag11
    iexact Hag12
  ihave Hout := ((Entails.of_eq (sep_eight fun x => owns (c : Thread nD τ) (outRows (outChunk x.1 x.2 c) x.1) fullShare (piece m x.1 x.2 c)).symm).trans (result_close m c)) $$ [Hout00 Hout01 Hout02 Hout03 Hout10 Hout11 Hout12 Hout13]
  · isplitl [Hout00]; · iexact Hout00
    isplitl [Hout01]; · iexact Hout01
    isplitl [Hout02]; · iexact Hout02
    isplitl [Hout03]; · iexact Hout03
    isplitl [Hout10]; · iexact Hout10
    isplitl [Hout11]; · iexact Hout11
    isplitl [Hout12]; · iexact Hout12
    iexact Hout13
  ihave HX := (Entails.of_eq (sep_two fun d => xPts m c d).symm) $$ [HX0 HX1]
  · isplitl [HX0]; · iexact HX0
    iexact HX1
  ihave Hzx := (Entails.of_eq (sep_two (F := F) fun d => semVal ((c : Thread nD τ), .dma (xS d)) 0).symm) $$ [Hzx0 Hzx1]
  · isplitl [Hzx0]; · iexact Hzx0
    iexact Hzx1
  ihave Hzo := (Entails.of_eq (sep_eight (F := F) fun x => semVal ((c : Thread nD τ), .dma (outS x.1 x.2)) 0).symm) $$ [Hzo00 Hzo01 Hzo02 Hzo03 Hzo10 Hzo11 Hzo12 Hzo13]
  · isplitl [Hzo00]; · iexact Hzo00
    isplitl [Hzo01]; · iexact Hzo01
    isplitl [Hzo02]; · iexact Hzo02
    isplitl [Hzo03]; · iexact Hzo03
    isplitl [Hzo10]; · iexact Hzo10
    isplitl [Hzo11]; · iexact Hzo11
    isplitl [Hzo12]; · iexact Hzo12
    iexact Hzo13
  ihave Hzs := (Entails.of_eq (sep_hops (F := F) fun h => semVal (sndCell c h) 0).symm) $$ [Hzs00 Hzs01 Hzs02 Hzs03 Hzs04 Hzs05 Hzs10 Hzs11 Hzs12 Hzs13 Hzs14 Hzs15]
  · isplitl [Hzs00]; · iexact Hzs00
    isplitl [Hzs01]; · iexact Hzs01
    isplitl [Hzs02]; · iexact Hzs02
    isplitl [Hzs03]; · iexact Hzs03
    isplitl [Hzs04]; · iexact Hzs04
    isplitl [Hzs05]; · iexact Hzs05
    isplitl [Hzs10]; · iexact Hzs10
    isplitl [Hzs11]; · iexact Hzs11
    isplitl [Hzs12]; · iexact Hzs12
    isplitl [Hzs13]; · iexact Hzs13
    isplitl [Hzs14]; · iexact Hzs14
    iexact Hzs15
  ihave Hzr := (Entails.of_eq (sep_hops (F := F) fun h => semVal (rcvCell c h) 0).symm) $$ [Hzr00 Hzr01 Hzr02 Hzr03 Hzr04 Hzr05 Hzr10 Hzr11 Hzr12 Hzr13 Hzr14 Hzr15]
  · isplitl [Hzr00]; · iexact Hzr00
    isplitl [Hzr01]; · iexact Hzr01
    isplitl [Hzr02]; · iexact Hzr02
    isplitl [Hzr03]; · iexact Hzr03
    isplitl [Hzr04]; · iexact Hzr04
    isplitl [Hzr05]; · iexact Hzr05
    isplitl [Hzr10]; · iexact Hzr10
    isplitl [Hzr11]; · iexact Hzr11
    isplitl [Hzr12]; · iexact Hzr12
    isplitl [Hzr13]; · iexact Hzr13
    isplitl [Hzr14]; · iexact Hzr14
    iexact Hzr15
  unfold end_
  isplitl [Hzs]; · iexact Hzs
  isplitl [Hzr]; · iexact Hzr
  isplitl [Hzb]; · iexact Hzb
  isplitl [Hxm]; · iexact Hxm
  isplitl [Hsd]; · iexact Hsd
  isplitl [Hst]; · iexact Hst
  isplitl [Hrs]; · iexact Hrs
  isplitl [Hag]; · iexact Hag
  isplitl [Hout]; · iexact Hout
  isplitl [HX]; · iexact HX
  isplitl [Hzx]; · iexact Hzx
  isplitl [Hzo]; · iexact Hzo
  isplitl [HWA]; · iexact HWA
  isplitl [HWB]; · iexact HWB
  iexact HO

end Cert.TwoWay

end
-- ==== Proof.Ghost.lean ====
/-
# What the launch hands out

The cells' positions, marks and duty tokens minted at launch, the cells' invariants allocated for all devices at once, and the
tokens passed around the ring to the devices that pay the duties; and the credit each device's cells are owed at launch.
-/
module

public import proofs.«01_k».proof.Proof.Body

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

/-! ## The semaphores -/

/-- The kernel's own semaphores: of the hops, of the copies of `x`, of the copies into the result. -/
abbrev Own : Type := (Hop ⊕ Hop) ⊕ (Fin 2 ⊕ (Fin 2 × Fin 4))
/-- The semaphore of each. -/
abbrev osem : Own → SemLoc sig
  | .inl (.inl h) => .dma (sndS h)
  | .inl (.inr h) => .dma (rcvS h)
  | .inr (.inl d) => .dma (xS d)
  | .inr (.inr x) => .dma (outS x.1 x.2)

/-- The listed semaphores are the kernel's own, each listed once. -/
theorem ownSemFacts : Pipeline.OwnSemFacts cfg0.spec osem := by decide

/-- Different cells of the schedule have different semaphores. -/
theorem csem_injective : Function.Injective csem := fun a b h => Option.some.inj ((cellAt_csem a).symm.trans ((congrArg cellAt h).trans (cellAt_csem b)))
/-- Different cells on different devices have different semaphores. -/
theorem kcell_injective : Function.Injective kcell := by
  rintro ⟨c, k⟩ ⟨c', k'⟩ h
  have h1 : c = c' := congrArg (fun g : GSem nD τ sig => g.1.1) h
  subst h1
  exact Prod.ext rfl (csem_injective (congrArg Prod.snd h))

/-- The semaphores of a device's copies inside it, at zero. -/
def locals (c : Dev nD) : sProp 𝕄 :=
  iprop((bigSep Finset.univ fun d : Fin 2 => semVal ((c : Thread nD τ), .dma (xS d)) 0)
    ∗ (bigSep Finset.univ fun x : Fin 2 × Fin 4 => semVal ((c : Thread nD τ), .dma (outS x.1 x.2)) 0))

/-- A device's own semaphores at zero are its send cells, its receive cells and those of its local copies. -/
theorem ownSems0_eq (c : Dev nD) : (Pipeline.ownSems0 (Ix := Unit) (Name := ℕ) (U := UU) (Lvl := ℕ) (Val := Elt F) (τ := τ) osem c : sProp 𝕄)
    = iprop(((bigSep Finset.univ fun h : Hop => semVal (sndCell c h) 0) ∗ (bigSep Finset.univ fun h : Hop => semVal (rcvCell c h) 0)) ∗ locals c) := by
  unfold Pipeline.ownSems0 locals
  rw [bigSep_univ_sum, bigSep_univ_sum, bigSep_univ_sum]; rfl
/-- The only semaphore outside the kernel's scope is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A family over the cells, taken apart. -/
theorem sep_cells (Φ : Cell → sProp 𝕄) : bigSep Finset.univ Φ
    = iprop(Φ (.inl ()) ∗ (bigSep Finset.univ fun h : Hop => Φ (.inr (.inl h))) ∗ (bigSep Finset.univ fun h : Hop => Φ (.inr (.inr h)))) := by
  rw [bigSep_univ_sum, bigSep_univ_sum, bigSep_univ_eq_bigSepL [()] (by decide) (by decide)]; rfl

/-! ## The launch element -/

/-- All the cells of the schedule, over the four devices. -/
def ringCells : Finset (GSem nD τ sig) := Finset.univ.map ⟨kcell, kcell_injective⟩

/-- The duties of a device's cells: two of its barrier, one of each of the others. -/
abbrev Duty : Type := Fin 2 ⊕ (Hop ⊕ Hop)
/-- Each as its cell and its name there. -/
def dcell : Duty → Cell × Fin 2
  | .inl d => (.inl (), d)
  | .inr x => (.inr x, 0)
/-- Different duties differ in cell or in name. -/
theorem dcell_injective : Function.Injective dcell := by
  rintro (d | x) (d' | x') h <;> simp_all [dcell]
/-- The token of a duty: its cell, its round and its name. -/
abbrev tokOf (x : Dev nD × Duty) : GSem nD τ sig × ℕ × Fin 2 := (kcell (x.1, (dcell x.2).1), 0, (dcell x.2).2)
/-- Different duties have different tokens. -/
theorem tokOf_injective : Function.Injective tokOf := by
  rintro ⟨c, j⟩ ⟨c', j'⟩ h
  have h1 : (c, (dcell j).1) = (c', (dcell j').1) := kcell_injective (congrArg Prod.fst h)
  have h2 : (dcell j).2 = (dcell j').2 := congrArg (fun x : GSem nD τ sig × ℕ × Fin 2 => x.2.2) h
  have h3 : c = c' := congrArg Prod.fst h1
  exact Prod.ext h3 (dcell_injective (Prod.ext (congrArg Prod.snd h1) h2))
/-- All the tokens of the schedule, over the four devices. -/
def ringToks : Finset (GSem nD τ sig × ℕ × Fin 2) := Finset.univ.map ⟨tokOf, tokOf_injective⟩

/-- The ghost element at launch: the staging cells, the ring's cells, and no copy under way. -/
def u₀ : UU := (initOf (Pipeline.cells cfgs cellOf_inj) (Pipeline.launchToks cfgs cellOf_inj), (initOf ringCells ringToks, 1))

/-- The launch element in its two parts. -/
theorem u₀_split : (ownU u₀ : sProp 𝕄)
    ⊢ iprop(BI.own (EP (initOf (Pipeline.cells cfgs cellOf_inj) (Pipeline.launchToks cfgs cellOf_inj))) ∗ BI.own (ER (initOf ringCells ringToks))) := by
  unfold u₀
  iintro Hu
  ihave H := (ownU_pair _ _) $$ Hu
  icases H with ⟨HP, HX⟩
  isplitl [HP]; · iexact HP
  iexact HX

/-- The tokens of the duties of device `c`'s own cells. -/
def toks (c : Dev nD) : sProp 𝕄 :=
  iprop((bigSep Finset.univ fun d : Fin 2 => dutyTok ER (barCell c) 0 d)
    ∗ (bigSep Finset.univ fun h : Hop => dutyTok ER (sndCell c h) 0 0) ∗ (bigSep Finset.univ fun h : Hop => dutyTok ER (rcvCell c h) 0 0))
/-- The tokens of the duties it pays. -/
def payToks (c : Dev nD) : sProp 𝕄 :=
  iprop((bigSep Finset.univ fun d : Fin 2 => dutyTok ER (barCell (up d c)) 0 d)
    ∗ (bigSep Finset.univ fun h : Hop => dutyTok ER (sndCell c h) 0 0) ∗ (bigSep Finset.univ fun h : Hop => dutyTok ER (rcvCell (dn h.1 c) h) 0 0))
/-- Its positions in its own cells. -/
def poss (c : Dev nD) : sProp 𝕄 := bigSep Finset.univ fun k : Cell => atPos ER (kcell (c, k)) 0 ∅ 0

/-- What the launch element deals device `c`. -/
def G (c : Dev nD) : sProp 𝕄 :=
  iprop((bigSep Finset.univ fun k : Cell => roundState ER (sched m) (kcell (c, k)) 0)
    ∗ poss c ∗ (bigSep Finset.univ fun k : Cell => reached ER (kcell (c, k)) 0) ∗ toks c)

/-- The ring's part of the launch element deals every device its share. -/
theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cell => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (sched m) ringCells ringToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat']; · iexact Hat'
  isplitl [Hr']; · iexact Hr'
  iexact Htok'

/-! ## The cells opened, for all devices -/

/-- The semaphores under the schedule at zero, and those that are not. -/
theorem sems0_split (c : Dev nD) :
    iprop(Pipeline.ownSems0 (Ix := Unit) (Name := ℕ) (U := UU) (Lvl := ℕ) (Val := Elt F) (τ := τ) osem c ∗ unscopedSems0 c)
      ⊢ (iprop((bigSep Finset.univ fun k : Cell => semVal (kcell (c, k)) 0) ∗ locals c) : sProp 𝕄) := by
  rw [ownSems0_eq, unscopedSems0_eq, sep_cells]
  iintro ⟨⟨⟨HS, HV⟩, HL⟩, HB⟩
  isplitr [HL]
  · isplitl [HB]; · iexact HB
    isplitl [HS]; · iexact HS
    iexact HV
  iexact HL

/-- A device turns its semaphores at zero and its share into the invariants of its cells, that each is at round `0`, its
    positions and its tokens. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (sched m) κ (kcell (c, k))))
          ∗ (bigSep Finset.univ fun k : Cell => reached ER (kcell (c, k)) 0) ∗ (poss c ∗ locals c) ∗ toks c) := by
  unfold G
  iintro ⟨Hos, Hus, Hst, Hat, Hr, Htok⟩
  ihave Hv := (sems0_split (F := F) c) $$ [Hos Hus]
  · isplitl [Hos] <;> iassumption
  icases Hv with ⟨Hv, HL⟩
  imod (show iprop((bigSep Finset.univ fun k : Cell => semVal (kcell (c, k)) 0) ∗ bigSep Finset.univ fun k : Cell => roundState ER (sched m) (kcell (c, k)) 0)
      ⊢ (|={Set.univ}=> bigSep Finset.univ fun k => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat HL]
  · isplitl [Hat]; · iexact Hat
    iexact HL
  iexact Htok

/-- The tokens go to the devices that pay: a barrier's to the neighbours that signal it, an arrival's to the sender. -/
theorem toks_around : (bigSep Finset.univ fun c : Dev nD => (toks c : sProp 𝕄)) ⊢ bigSep Finset.univ fun c : Dev nD => payToks c := by
  have hb : (bigSep Finset.univ fun c : Dev nD => bigSep Finset.univ fun d : Fin 2 => (dutyTok ER (barCell c) 0 d : sProp 𝕄))
      = bigSep Finset.univ fun c : Dev nD => bigSep Finset.univ fun d : Fin 2 => dutyTok ER (barCell (up d c)) 0 d := by
    rw [bigSep_univ_comm, bigSep_univ_comm (fun (c : Dev nD) (d : Fin 2) => (dutyTok ER (barCell (up d c)) 0 d : sProp 𝕄))]
    exact bigSep_congr fun d _ => bigSep_univ_equiv (ring d).symm fun c : Dev nD => (dutyTok ER (barCell c) 0 d : sProp 𝕄)
  have hr : (bigSep Finset.univ fun c : Dev nD => bigSep Finset.univ fun h : Hop => (dutyTok ER (rcvCell c h) 0 0 : sProp 𝕄))
      = bigSep Finset.univ fun c : Dev nD => bigSep Finset.univ fun h : Hop => dutyTok ER (rcvCell (dn h.1 c) h) 0 0 := by
    rw [bigSep_univ_comm, bigSep_univ_comm (fun (c : Dev nD) (h : Hop) => (dutyTok ER (rcvCell (dn h.1 c) h) 0 0 : sProp 𝕄))]
    exact bigSep_congr fun h _ => bigSep_univ_equiv (ring h.1) fun c : Dev nD => (dutyTok ER (rcvCell c h) 0 0 : sProp 𝕄)
  unfold toks payToks
  rw [bigSep_sep', bigSep_sep', bigSep_sep', bigSep_sep', hb, hr]

/-- What every device holds when its kernel starts, of the ring. -/
def G' (c : Dev nD) : sProp 𝕄 :=
  iprop(∃ K : Dev nD × Cell → ℕ, ((bigSep Finset.univ fun x => cellInv ER (sched m) (K x) (kcell x)) ∗ (bigSep Finset.univ fun x => reached ER (kcell x) 0))
    ∗ (poss c ∗ locals c) ∗ payToks c)

/-- From what the devices allocated, every device gets the invariants of all, its positions and the tokens of the duties it
    pays. -/
theorem regroup :
    (bigSep Finset.univ fun c : Dev nD => iprop((bigSep Finset.univ fun k => iprop(∃ κ : ℕ, cellInv ER (sched m) κ (kcell (c, k))))
          ∗ (bigSep Finset.univ fun k : Cell => reached ER (kcell (c, k)) 0) ∗ (poss c ∗ locals c) ∗ toks c) : sProp 𝕄)
      ⊢ bigSep Finset.univ (G' m) := by
  rw [bigSep_sep', bigSep_sep', bigSep_sep', ← bigSep_univ_prod (fun x : Dev nD × Cell => iprop(∃ κ : ℕ, cellInv ER (sched m) κ (kcell x))),
    ← bigSep_univ_prod (fun x : Dev nD × Cell => (reached ER (kcell x) 0 : sProp 𝕄))]
  iintro ⟨HI, #HR, Hl, Htok⟩
  ihave HK := (BI.bigSep_exists_pi Finset.univ (fun (x : Dev nD × Cell) (κ : ℕ) => (cellInv ER (sched m) κ (kcell x) : sProp 𝕄))) $$ HI
  icases HK with ⟨%K, #HI⟩
  ihave Htk := (toks_around (F := F)) $$ Htok
  iapply (BI.bigSep_with_persistent (S := Finset.univ)
    (R := iprop((bigSep Finset.univ fun x => cellInv ER (sched m) (K x) (kcell x)) ∗ (bigSep Finset.univ fun x => reached ER (kcell x) 0)))
    (Φ := fun c : Dev nD => (iprop((poss c ∗ locals c) ∗ payToks c) : sProp 𝕄)) fun c _ => by unfold G'; iintro H; iexists K; iexact H)
  isplitr
  · isplitl; · iexact HI
    iexact HR
  · rw [bigSep_sep' Finset.univ (fun c : Dev nD => (iprop(poss c ∗ locals c) : sProp 𝕄)) payToks]
    isplitl [Hl]; · iexact Hl
    iexact Htk

/-- All semaphores of every device, and what the launch element dealt, made into what the kernels start from. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

/-- Two receive cells are the same exactly when device and hop are. -/
theorem rcvCell_eq_iff {a b : Dev nD} {h h' : Hop} : rcvCell a h = rcvCell b h' ↔ a = b ∧ h = h' :=
  ⟨fun e => by
    have e' := kcell_injective (a₁ := (a, .inr (.inr h))) (a₂ := (b, .inr (.inr h'))) e
    exact ⟨congrArg Prod.fst e', Sum.inr_injective (Sum.inr_injective (congrArg Prod.snd e'))⟩, fun ⟨e, e'⟩ => by rw [e, e']⟩
/-- Two barrier cells are the same exactly when the devices are. -/
theorem barCell_eq_iff {a b : Dev nD} : barCell a = barCell b ↔ a = b :=
  ⟨fun e => congrArg Prod.fst (kcell_injective (a₁ := (a, .inl ())) (a₂ := (b, .inl ())) e), fun e => by rw [e]⟩
/-- A receive cell is no barrier cell. -/
theorem rcv_ne_bar (a b : Dev nD) (h : Hop) : rcvCell a h ≠ barCell b := fun e => by
  have e' := kcell_injective (a₁ := (a, .inr (.inr h))) (a₂ := (b, .inl ())) e
  exact Sum.inr_ne_inl (congrArg Prod.snd e')

/-- `c` is below `a` exactly when `a` is above `c`. -/
theorem dn_eq_iff (d : Fin 2) {a c : Dev nD} : c = dn d a ↔ a = up d c :=
  ⟨fun e => by rw [e, up_dn], fun e => by rw [e, dn_up]⟩
/-- `c` is above `a` exactly when `a` is below `c`. -/
theorem up_eq_iff (d : Fin 2) {a c : Dev nD} : c = up d a ↔ a = dn d c :=
  ⟨fun e => by rw [e, dn_up], fun e => by rw [e, up_dn]⟩

/-- The hops owe nothing to a barrier cell. -/
theorem debt_bar (a c : Dev nD) : debt a 0 (barCell c) () = 0 := by
  by_contra hn
  obtain ⟨h, -, e⟩ := debt_pos (Nat.pos_of_ne_zero hn)
  exact rcv_ne_bar _ _ _ e.symm
/-- For its hops, only the device above owes a receive cell, and it owes the credit of a block. -/
theorem debt_rcv (a c : Dev nD) (h : Hop) : debt a 0 (rcvCell c h) () = if a = up h.1 c then N else 0 := by
  unfold debt
  rw [Finset.sum_apply, Finsupp.finset_sum_apply, Finset.sum_eq_single h]
  · rw [tallyAt_apply]
    by_cases e : a = up h.1 c
    · rw [if_pos e, if_pos ⟨rcvCell_eq_iff.mpr ⟨(dn_eq_iff h.1).mpr e, rfl⟩, rfl⟩]
    · rw [if_neg e, if_neg fun e' => e ((dn_eq_iff h.1).mp (rcvCell_eq_iff.mp e'.1).1)]
  · intro h' _ hne
    rw [tallyAt_apply, if_neg fun e' => hne (rcvCell_eq_iff.mp e'.1).2.symm]
  · intro hn; exact absurd (by simp [left_]) hn

/-- At launch each of the two neighbours owes a barrier cell one unit. -/
theorem owed_bar (a c : Dev nD) : debt₀ a (barCell c) () = (if a = dn 1 c then 1 else 0) + (if a = dn 0 c then 1 else 0) := by
  have one (d : Fin 2) : (tallyAt (barCell (up d a)) () 1 : CellTallies nD τ sig Unit) (barCell c) () = if a = dn d c then 1 else 0 := by
    rw [tallyAt_apply]
    by_cases e : a = dn d c
    · rw [if_pos e, if_pos ⟨barCell_eq_iff.mpr ((up_eq_iff d).mpr e), rfl⟩]
    · rw [if_neg e, if_neg fun e' => e ((up_eq_iff d).mp (barCell_eq_iff.mp e'.1))]
  unfold debt₀ debt₁
  rw [Pi.add_apply, Finsupp.add_apply, Pi.add_apply, Finsupp.add_apply, debt_bar, Nat.zero_add, one, one]
/-- At launch only the sender of the hop owes a receive cell, and it owes the credit of a block. -/
theorem owed_rcv (a c : Dev nD) (h : Hop) : debt₀ a (rcvCell c h) () = if a = up h.1 c then N else 0 := by
  unfold debt₀ debt₁
  rw [Pi.add_apply, Finsupp.add_apply, Pi.add_apply, Finsupp.add_apply, debt_rcv, tallyAt_ne_cell (rcv_ne_bar _ _ _), tallyAt_ne_cell (rcv_ne_bar _ _ _),
    Finsupp.zero_apply, Nat.add_zero, Nat.add_zero]

/-- The launch gives a barrier cell a credit of two units. -/
theorem launch_bar (c : Dev nD) :
    tallyOn (barCell c) (launchCredit (Pipeline.owing debt₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (dn 1 c) fun _ => 1, Finset.sum_ite_eq' Finset.univ (dn 0 c) fun _ => 1, if_pos (Finset.mem_univ _), if_pos (Finset.mem_univ _)]
/-- The launch gives a receive cell the credit of a block. -/
theorem launch_rcv (c : Dev nD) (h : Hop) :
    tallyOn (rcvCell c h) (launchCredit (Pipeline.owing debt₀) 0 (rcvCell c h)) = (tallyAt (rcvCell c h) () N : CellTallies nD τ sig Unit) := by
  unfold tallyAt; refine congrArg _ (Finsupp.ext fun u => ?_); cases u
  rw [Pipeline.launchCredit_owing, Finsupp.single_eq_same, Finset.sum_congr rfl fun d _ => owed_rcv d c h, Finset.sum_ite_eq' Finset.univ (up h.1 c) fun _ => N,
    if_pos (Finset.mem_univ _)]

/-- The credit device `c` starts with: two units of its barrier, a block for every hop. -/
theorem creds (c : Dev nD) :
    (Pipeline.launchCred debt₀ c : sProp 𝕄) ⊢ iprop(cred (tallyAt (barCell c) () 2) ∗ bigSep Finset.univ fun h : Hop => cred (tallyAt (rcvCell c h) () N)) := by
  unfold Pipeline.launchCred
  rw [bigSep_univ_at _ (SemLoc.reg barS), launch_bar]
  refine sep_mono_right ?_
  rw [← bigSep_congr (s := Finset.univ) (fun (h : Hop) _ => congrArg (fun x => (cred x : sProp 𝕄)) (launch_rcv c h))]
  have hinj : Function.Injective fun h : Hop => SemLoc.dma (rcvS h) := fun h h' e => Sum.inr_injective (Sum.inr_injective (csem_injective (a₁ := .inr (.inr h)) (a₂ := .inr (.inr h')) e))
  refine (bigSep_subset (t := Finset.univ.map ⟨_, hinj⟩) ?_).trans (Entails.of_eq (bigSep_map _))
  intro sm hs
  obtain ⟨h, -, rfl⟩ := Finset.mem_map.mp hs
  exact Finset.mem_erase.mpr ⟨fun e => (nomatch (show SemLoc.dma (rcvS h) = SemLoc.reg barS from e)), Finset.mem_univ _⟩

end Cert.TwoWay

end
-- ==== Proof.Run.lean ====
/-
# The launch

What each device holds around its one grid point, the body there, and the run of the whole program: it ends, with the arguments as they
were, every semaphore at zero, and the result's blocks holding the sums.
-/
module

public import proofs.«01_k».proof.Proof.Ghost
public import Idealize.ShloMosaic.Lib.Pipeline.CollectiveSegs

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Cell → ℕ)

variable (ρ : Dev nD → PrngReg)

/-- The five scratch buffers. -/
def scr (c : Dev nD) : sProp 𝕄 :=
  iprop(whole_ c cc0_scratch0 ∗ whole_ c cc0_scratch1 ∗ whole_ c cc0_scratch2 ∗ whole_ c cc0_scratch3 ∗ whole_ c cc0_scratch4)
/-- The array `x`. -/
def xAll (c : Dev nD) : sProp 𝕄 := ((c : Thread nD τ).loc main_arg0) ↦{fullShare} m ((c : Thread nD τ).loc main_arg0)
/-- The result, its blocks holding the sums. -/
def summed (c : Dev nD) : sProp 𝕄 :=
  iprop(∃ g : Buf (Elt F) ((c : Thread nD τ).loc main_v1), ⌜Pieces m c g⌝ ∗ ((c : Thread nD τ).loc main_v1) ↦{fullShare} g)

/-- What a device brings to the kernel. -/
def start (c : Dev nD) : sProp 𝕄 :=
  iprop((∃ K, recs m K ∗ barPlan c ∗ bigSep Finset.univ fun h : Hop => plan c h) ∗ locals c ∗ xAll m c ∗ whole_ c main_v1)
/-- What it holds before the point, -/
def Φ₀ (c : Dev nD) : sProp 𝕄 := iprop(start m c ∗ scr c)
/-- and after it. -/
def Φ₁ (c : Dev nD) : sProp 𝕄 :=
  iprop(((bigSep Finset.univ fun h : Hop => semVal (sndCell c h) 0) ∗ (bigSep Finset.univ fun h : Hop => semVal (rcvCell c h) 0) ∗ semVal (barCell c) 0)
    ∗ locals c ∗ scr c ∗ xAll m c ∗ summed m c)

/-- The kernel's run on device `c`: its arrays at launch, what its two staging buffers hold, what it holds before and after, and
    what it owes. -/
def dats (_ : Fin 1) (c : Dev nD) : Pipeline.Dat τ (Elt F) Unit ℕ UU ℕ cfg0 c where
  A w := m ((cfg0.win w).arr.view.loc (c : Thread nD τ))
  after w _ := match w with
    | ⟨0, _⟩ => Wa m c
    | ⟨1, _⟩ => Wb m c
  Φ t := match t with
    | ⟨0, _⟩ => Φ₀ m c
    | ⟨_ + 1, _⟩ => Φ₁ m c
  q _ := fullShare
  owed t := match t with
    | ⟨0, _⟩ => debt₀ c
    | ⟨_ + 1, _⟩ => 0

/-- The first staging buffer holds the device's columns of the first weight. -/
theorem before0 (c : Dev nD) (d) : (dats m 0 c).before (0 : Fin 2) t0_0 d = Wa m c := by
  unfold Pipeline.Dat.before; rw [if_pos (fetch0_0 t0_0)]; rfl
/-- The second staging buffer holds the device's rows of the second weight. -/
theorem before1 (c : Dev nD) (d) : (dats m 0 c).before (1 : Fin 2) t0_0 d = Wb m c := by
  unfold Pipeline.Dat.before; rw [if_pos (fetch0_1 t0_0)]; rfl

/-- `x` is held in two halves, one for each direction's copies. -/
theorem x_halves (c : Dev nD) : xAll m c = bigSep Finset.univ fun d : Fin 2 => xPts m c d := by
  rw [sep_two]; unfold xAll xPts
  exact Entails.antisymm (pointsTo_share (PosShare.mem_left_op_right fullShare)).1 (pointsTo_share (PosShare.mem_left_op_right fullShare)).2

/-- What the launch says a device owes at the start is its whole debt. -/
theorem owe_in (c : Dev nD) : (dats m 0 c).owesAt () t0_0.castSucc ⊢ Owe c (debt₀ c) := by
  unfold Pipeline.Dat.owesAt Pipeline.owesWithin Owe
  iintro ⟨%W, -, H⟩
  iexists W; iexact H
/-- A device that owes nothing any more meets what the launch asks at the end. -/
theorem owe_out (c : Dev nD) : (Owe c (debt c 12) : sProp 𝕄) ⊢ (dats m 0 c).owesAt () t0_0.succ := by
  rw [debt_end]
  unfold Pipeline.Dat.owesAt Pipeline.owesWithin Owe
  iintro ⟨%W, H⟩
  iexists W; isplitr
  · ipureintro; exact fun _ _ => Or.inl trivial
  iexact H

/-- A staging buffer at its contents. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)
/-- The first staging buffer, as the body takes it. -/
theorem stg_in0 (c : Dev nD) : iprop(∃ d, stg c cc0_stg0_0 ((dats m 0 c).before (0 : Fin 2) t0_0 d)) ⊢ wAt c cc0_stg0_0 (Wa m c) := by
  iintro ⟨%d, %f, %hf, H⟩
  rw [before0] at hf; subst hf; unfold wAt; iexact H
/-- The second staging buffer, as the body takes it. -/
theorem stg_in1 (c : Dev nD) : iprop(∃ d, stg c cc0_stg1_0 ((dats m 0 c).before (1 : Fin 2) t0_0 d)) ⊢ wAt c cc0_stg1_0 (Wb m c) := by
  iintro ⟨%d, %f, %hf, H⟩
  rw [before1] at hf; subst hf; unfold wAt; iexact H
/-- A staging buffer, as the body gives it back. -/
theorem stg_out (c : Dev nD) (b : Ref sig .tc) (X : b.ty.Contents (Elt F)) : (wAt c b X : sProp 𝕄) ⊢ stg c b X := by
  unfold wAt; iintro H
  iexists X; isplitr
  · ipureintro; rfl
  iexact H

/-- What the launch hands the body. -/
def bodyPre (c : Dev nD) : sProp 𝕄 :=
  iprop(Φ₀ m c ∗ (dats m 0 c).owesAt () t0_0.castSucc
    ∗ (∃ d, stg c cc0_stg0_0 ((dats m 0 c).before (0 : Fin 2) t0_0 d)) ∗ (∃ d, stg c cc0_stg1_0 ((dats m 0 c).before (1 : Fin 2) t0_0 d)))
/-- What the launch asks of the body. -/
def bodyPost (c : Dev nD) : sProp 𝕄 :=
  iprop(Φ₁ m c ∗ (dats m 0 c).owesAt () t0_0.succ ∗ stg c cc0_stg0_0 (Wa m c) ∗ stg c cc0_stg1_0 (Wb m c))

/-- What the launch hands the body is what the body's proof starts from. -/
theorem begin_of (c : Dev nD) : bodyPre m c ⊢ iprop(∃ K, recs m K ∗ begin_ m c) := by
  unfold bodyPre Φ₀ start scr locals
  rw [x_halves]
  iintro ⟨⟨⟨⟨%K, Hr, Hb, Hp⟩, ⟨Hx, Ho⟩, HX, HV⟩, H0, H1, H2, H3, H4⟩, HO, Ha, Hw⟩
  ihave HO := (owe_in m c) $$ HO
  ihave Ha := (stg_in0 m c) $$ Ha
  ihave Hw := (stg_in1 m c) $$ Hw
  iexists K
  isplitl [Hr]; · iexact Hr
  unfold begin_
  isplitl [Hb]; · iexact Hb
  isplitl [Hp]; · iexact Hp
  isplitl [H0]; · iexact H0
  isplitl [H1]; · iexact H1
  isplitl [H2]; · iexact H2
  isplitl [H3]; · iexact H3
  isplitl [H4]; · iexact H4
  isplitl [HV]; · iexact HV
  isplitl [HX]; · iexact HX
  isplitl [Hx]; · iexact Hx
  isplitl [Ho]; · iexact Ho
  isplitl [Ha]; · iexact Ha
  isplitl [Hw]; · iexact Hw
  iexact HO

/-- What the body's proof ends with is what the launch asks. -/
theorem end_to (c : Dev nD) : end_ m c ⊢ bodyPost m c := by
  unfold bodyPost Φ₁ scr locals summed
  rw [x_halves]
  unfold end_
  iintro ⟨HS, HR, HB, H0, H1, H2, H3, H4, HV, HX, Hx, Ho, Ha, Hw, HO⟩
  ihave HO := (owe_out m c) $$ HO
  ihave Ha := (stg_out c _ _) $$ Ha
  ihave Hw := (stg_out c _ _) $$ Hw
  isplitr [HO Ha Hw]
  · isplitl [HS HR HB]
    · isplitl [HS]; · iexact HS
      isplitl [HR]; · iexact HR
      iexact HB
    isplitl [Hx Ho]
    · isplitl [Hx]; · iexact Hx
      iexact Ho
    isplitl [H0 H1 H2 H3 H4]
    · isplitl [H0]; · iexact H0
      isplitl [H1]; · iexact H1
      isplitl [H2]; · iexact H2
      isplitl [H3]; · iexact H3
      iexact H4
    isplitl [HX]; · iexact HX
    iexact HV
  isplitl [HO]; · iexact HO
  isplitl [Ha]; · iexact Ha
  iexact Hw

set_option maxRecDepth 4000 in
/-- The body, from what the launch hands it, runs to what the launch asks. -/
theorem body_run (c : Dev nD) : bodyPre m c ⊢ runs c (cc0__fused_body (F := F) (Memref.whole main_arg0) (Memref.isWhole_whole _) (Memref.whole cc0_stg0_0) (Memref.isWhole_whole _)
      (Memref.whole cc0_stg1_0) (Memref.isWhole_whole _) (Memref.whole main_v1) (Memref.isWhole_whole _) (Memref.whole cc0_scratch0) (Memref.isWhole_whole _)
      (Memref.whole cc0_scratch1) (Memref.isWhole_whole _) (Memref.whole cc0_scratch2) (Memref.isWhole_whole _) (Memref.whole cc0_scratch3) (Memref.isWhole_whole _)
      (Memref.whole cc0_scratch4) (Memref.isWhole_whole _) cc0_scratch5 cc0_scratch6 cc0_scratch7 cc0_scratch8 cc0_scratch9 cc0_scratch10) (fun _ => bodyPost m c) := by
  iintro H
  ihave H := (begin_of m c) $$ H
  icases H with ⟨%K, Hr, Hb⟩
  iapply (body m K c (Q := fun _ => bodyPost m c)) $$ [Hr Hb]
  · isplitl [Hr]; · iexact Hr
    iexact Hb
  iintro He
  iapply (end_to m c); iexact He

set_option maxRecDepth 40000 in
/-- The body at the grid's point. -/
theorem body_obligation (c : Dev nD) : Pipeline.BodyObligation (dats m 0 c) (defs₀ (F := F)) 𝒱₀ () Set.univ := fun t => by
  rw [fin_N0 t]
  rw [bigSep_W0, bigSep_W0]
  simp only [owns_whole_eq]
  exact body_run m c

/-! ## The launch's side conditions -/

/-- Every array of the launch is held whole. -/
theorem share_eq (c : Dev nD) (w : Fin cfg0.W) : (dats m 0 c).share w = fullShare := by unfold Pipeline.Dat.share; split <;> rfl

/-- What a device owes at launch, it owes to receive cells and barrier cells. -/
theorem debt₀_pos {c : Dev nD} {g : GSem nD τ sig} {u : Unit} (hp : 0 < debt₀ c g u) : (∃ (a : Dev nD) (h : Hop), g = rcvCell a h) ∨ ∃ a : Dev nD, g = barCell a := by
  unfold debt₀ debt₁ at hp
  rw [Pi.add_apply, Finsupp.add_apply, Pi.add_apply, Finsupp.add_apply, tallyAt_apply, tallyAt_apply] at hp
  by_cases h1 : g = barCell (up 1 c)
  · exact .inr ⟨_, h1⟩
  by_cases h0 : g = barCell (up 0 c)
  · exact .inr ⟨_, h0⟩
  rw [if_neg fun e => h1 e.1, if_neg fun e => h0 e.1, Nat.add_zero] at hp
  obtain ⟨h, -, e⟩ := debt_pos hp
  exact .inl ⟨_, _, e⟩

/-- The staging copies' semaphores lie below all that a device owes. -/
theorem mayWait_stage (c : Dev nD) (q : DmaSem sig) (hq : cellAt (.dma q) = none) (O : CellTallies nD τ sig Unit) (hO : O = debt₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases debt₀_pos hg with ⟨a, h, rfl⟩ | ⟨a, rfl⟩ <;> rw [L_tc] <;> exact Finset.mem_singleton_self _)
      (fun p hp => by rw [Finset.mem_singleton.mp hp]; dsimp only [lv]; rw [hq])
      (fun g u hg => by
        rcases debt₀_pos hg with ⟨a, h, rfl⟩ | ⟨a, rfl⟩
        · dsimp only [lv]; rw [cellAt_rcv]; exact Nat.lt_of_lt_of_le Nat.zero_lt_two (Nat.le_add_right _ _)
        · dsimp only [lv]; rw [cellAt_bar]; exact Nat.one_pos)
  · rw [MayWait_zero]; iintro -; iempintro

/-- The waits of the staging copies are allowed by the levels. -/
theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-- A device's positions, tokens and credit are its part in the barrier and in every hop. -/
theorem plans (c : Dev nD) :
    iprop(poss c ∗ payToks c ∗ cred (tallyAt (barCell c) () 2) ∗ bigSep Finset.univ fun h : Hop => cred (tallyAt (rcvCell c h) () N))
      ⊢ (iprop(barPlan c ∗ bigSep Finset.univ fun h : Hop => plan c h) : sProp 𝕄) := by
  unfold poss payToks barPlan plan
  rw [sep_cells, sep_two, bigSep_sep', bigSep_sep', bigSep_sep', bigSep_sep']
  iintro ⟨⟨HB, HS, HR⟩, ⟨⟨HT0, HT1⟩, HTS, HTR⟩, HC, HCR⟩
  isplitl [HB HT0 HT1 HC]
  · isplitl [HB]; · iexact HB
    isplitl [HC]; · iexact HC
    isplitl [HT0]; · iexact HT0
    iexact HT1
  isplitl [HS]; · iexact HS
  isplitl [HR]; · iexact HR
  isplitl [HTS]; · iexact HTS
  isplitl [HTR]; · iexact HTR
  iexact HCR

/-- Before the kernel starts, a device holds `x` and the result whole and its part in the ring. -/
theorem start_intro (c : Dev nD) :
    iprop(Pipeline.unscopedRestP Pipeline.Prefetch.none cfg0.spec c (fun b => m ((c : Thread nD τ).loc b)) ∗ levAts L lv
        ∗ Pipeline.launchCred debt₀ c ∗ prngReg c (ρ c) ∗ G' m c)
      ⊢ |={Set.univ}=> iprop(start m c ∗ emp) := by
  rw [Pipeline.unscopedRestP_none, unscopedRest0_eq]
  unfold start G' xAll whole_ recs
  iintro ⟨⟨HX, HV⟩, Hlev, Hcr, -, ⟨%K, ⟨HI, HR⟩, ⟨HP, HL⟩, HT⟩⟩
  ihave Hc := (creds (F := F) c) $$ Hcr
  icases Hc with ⟨H1, HN⟩
  ihave Hp := (plans (F := F) c) $$ [HP HT H1 HN]
  · isplitl [HP]; · iexact HP
    isplitl [HT]; · iexact HT
    isplitl [H1]; · iexact H1
    iexact HN
  icases Hp with ⟨Hb, Hp⟩
  imodintro
  isplitl
  · isplitl [Hlev HI HR Hb Hp]
    · iexists K
      isplitl [Hlev HI HR]
      · isplitl [HI]; · iexact HI
        isplitl [HR]; · iexact HR
        iexact Hlev
      isplitl [Hb]; · iexact Hb
      iexact Hp
    isplitl [HL]; · iexact HL
    isplitl [HX]; · iexact HX
    iexists (m ((c : Thread nD τ).loc main_v1)); iexact HV
  · iempintro

/-- With the scratch buffers added, this is what the kernel starts from. -/
theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scr whole_
  iintro ⟨Hs, -, Hr⟩
  isplitl [Hs]; · iexact Hs
  iexact Hr

/-- What a device holds of the unscoped state when it is done. -/
def ends (c : Dev nD) : sProp 𝕄 := iprop(xAll m c ∗ summed m c ∗ unscopedSems0 c)

/-- What the kernel ends with gives back its semaphores and scratch buffers and leaves the end state. -/
theorem phi1_exit (c : Dev nD) :
    (dats m 0 c).Φ (Fin.last cfg0.N) ⊢ iprop(ends m c ∗ Pipeline.ownSems0 osem c ∗ Pipeline.scopedRest cfg0.spec c) := by
  rw [show (dats m 0 c).Φ (Fin.last cfg0.N) = Φ₁ m c from rfl, scopedRest0_eq, ownSems0_eq]
  unfold ends; rw [unscopedSems0_eq]
  unfold Φ₁ scr whole_
  iintro ⟨⟨HS, HR, HB⟩, HL, Hs, HX, HV⟩
  isplitl [HX HV HB]
  · isplitl [HX]; · iexact HX
    isplitl [HV]; · iexact HV
    iexact HB
  isplitl [HS HR HL]
  · isplitr [HL]
    · isplitl [HS]; · iexact HS
      iexact HR
    iexact HL
  iexact Hs

/-- What a device's part of a final state is. -/
def Ends (c : Dev nD) (s : MemSt nD τ sig (Elt F)) : Prop :=
  (s.mem ((c : Thread nD τ).loc main_arg0) = m ((c : Thread nD τ).loc main_arg0) ∧ Pieces m c (s.mem ((c : Thread nD τ).loc main_v1)))
    ∧ ∀ sm : SemLoc sig, sm.isScoped .tc = false → s.sem ((c.tc : Thread nD τ), sm) = 0

/-- From the end state, the memory is read: `x` is unchanged and the result is the sum. -/
theorem ends_read (c : Dev nD) (s' : Phys nD τ sig (Elt F)) :
    iprop(ends m c ∗ emp ∗ SI s') ⊢ |={Set.univ}=> (iprop(⌜Ends m c s'.mem⌝ ∗ SI s') : sProp 𝕄) := by
  unfold ends xAll summed
  iintro ⟨⟨HX, ⟨%g, %hg, HV⟩, Hu⟩, -, HSI⟩
  icombine HSI HX gives %hx
  icombine HSI HV gives %hv
  imod (Pipeline.unscopedSems0_read (X := unscopedSems0 c) (c := c) fupd_intro s') $$ [Hu HSI] with ⟨%hs, HSI⟩
  · isplitl [Hu] <;> iassumption
  imodintro
  isplitr
  · ipureintro
    refine ⟨⟨Buf.eq_of_forall_mem_univ hx, ?_⟩, hs⟩
    rw [Buf.eq_of_forall_mem_univ hv]; exact hg
  iexact HSI

/-! ## The run -/

set_option maxRecDepth 8000 in
/-- For any float values, from any memory with all counters at zero: every fair execution ends, and then on each device the arguments are
    as they were, the result's blocks hold the sums, and every counter is zero. -/
theorem run_main : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ Pieces m c (r.2.mem ((c : Thread nD τ).loc main_v1))) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := debt₀) (howed₀ := fun _ => rfl) (howedN := fun _ => rfl)
    (L := L) (lv := lv) (hL := L_of_ne) (hwaits := waits m)
    (G := G m) (G' := G' m) (u₀ := u₀)
    (hu₀ := by
      iintro Hu
      ihave H := u₀_split $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := ends m) (Z := fun _ => iprop(emp))
    (hX := start_intro m ρ) (hin := phi0_intro m) (hout := phi1_exit m)
    (QY := Ends m)
    (hY := ends_read m)
    (hQ := fun _ h hs => ⟨fun c => ⟨(h c).2.2.1.1, ((h c).1 (0 : Fin 2)).trans ((dats m 0 c).arrAt_in (0 : Fin 2) rfl _),
      ((h c).1 (1 : Fin 2)).trans ((dats m 0 c).arrAt_in (1 : Fin 2) rfl _), (h c).2.2.1.2⟩, sem_eq_zero hs fun c => (h c).2.2.2⟩)

end Cert.TwoWay

end
-- ==== Proof.Value.lean ====
/-
# The value

At the ideal numbers, where sums may be regrouped: the sum that comes around the ring is the sum of the four devices' partial products, in
whatever order the ring adds them, and the four partial products, each over its quarter of the hidden columns, are the whole product.
-/
module

public import proofs.«01_k».proof.Proof.Run
public import proofs.«01_k».proof.Proof.Gen.ReferenceIdeal.Run
public import proofs.«01_k».proof.Defs
public import Idealize.ShloMosaic.Lib.Layout
public import Idealize.ShloMosaic.Lib.MatmulPlain
public import Idealize.ShloMosaic.Lib.StackMember
public import Idealize.ShloMosaic.Lib.Quiescent

@[expose] public section

noncomputable section

namespace Cert.TwoWay

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx Idealize.ShloMosaic.StackMember

/-! ## The sum around the ring -/

/-- The chunk a device adds to first has the number of the device one above. -/
theorem chunk1 : ∀ (d : Fin 2) (c : Dev nD), chunk d 0 c = up d c := by decide
/-- The chunk a device adds to second has the number of the device two above. -/
theorem chunk2 : ∀ (d : Fin 2) (c : Dev nD), chunk d 1 c = up d (up d c) := by decide
/-- The chunk a device adds to third has the number of the device three above. -/
theorem chunk3 : ∀ (d : Fin 2) (c : Dev nD), chunk d 2 c = up d (up d (up d c)) := by decide
/-- The chunk that copy `j` writes is the one whose sum ended `j` devices above. -/
theorem piece_chunk : ∀ (d : Fin 2) (j : Fin 4) (c : Dev nD), outChunk d j c = up d (up d (up d ((up d)^[j.val] c))) := by decide
/-- The block that copy `j` writes is the sum finished `j` devices above. -/
theorem piece_at (m : (ℓ : Loc nD τ sig) → Buf (Elt Ideal) ℓ) (d : Fin 2) (j : Fin 4) (c : Dev nD) : piece m d j c = red m d 3 ((up d)^[j.val] c) := by
  fin_cases j <;> rfl

/-- The four devices, in the order a block meets them. -/
theorem sum_ring (d : Fin 2) (c : Dev nD) (f : Dev nD → EReal) : ((f (up d (up d (up d c))) + f (up d (up d c))) + f (up d c)) + f c = ∑ q : Fin 4, f q := by
  have hs : ∀ (d : Fin 2) (c : Dev nD), ({up d (up d (up d c)), up d (up d c), up d c, c} : Finset (Fin 4)) = Finset.univ := by decide
  have hn : ∀ (d : Fin 2) (c : Dev nD), up d (up d (up d c)) ∉ ({up d (up d c), up d c, c} : Finset (Fin 4)) ∧ up d (up d c) ∉ ({up d c, c} : Finset (Fin 4))
      ∧ up d c ∉ ({c} : Finset (Fin 4)) := by decide
  obtain ⟨h1, h2, h3⟩ := hn d c
  rw [← hs d c, Finset.sum_insert h1, Finset.sum_insert h2, Finset.sum_insert h3, Finset.sum_singleton, add_assoc, add_assoc]

variable (m : (ℓ : Loc nD τ sig) → Buf (Elt Ideal) ℓ)

/-- The block a device ends with: the partial products of all four, of one and the same rows. -/
theorem red_sum (d : Fin 2) (c : Dev nD) (i : S256x2048.Idx) :
    (red m d 3 c i : EReal) = ∑ q : Dev nD, (part m q (up d (up d (up d c))) d i : EReal) := by
  rw [← sum_ring d c fun q => (part m q (up d (up d (up d c))) d i : EReal)]
  show ((part m _ _ d i + part m _ (chunk d 0 _) d i) + part m _ (chunk d 1 _) d i) + part m _ (chunk d 2 _) d i = _
  rw [chunk1, chunk2, chunk3]

/-! ## An entry of a partial product -/

/-- The rectifier. -/
def relu (a : EReal) : EReal := max a (Ideal.ofBits .f32 0x00000000#32)

/-- An entry of a block of rows through the two layers. -/
theorem mlp_apply (X : BlkF Ideal) (A : FVec Ideal S2048x4096 .bf16) (B : FVec Ideal S4096x2048 .bf16) (r : Fin 256) (j : Fin 2048) :
    (mlp X A B (ix2 r j) : EReal) = ∑ t : Fin 4096, relu (∑ u : Fin 2048, X (ix2 r u) * A (ix2 u t)) * B (ix2 t j) := by
  unfold mlp
  rw [shapeCast_self, shapeCast_self]
  refine (Ideal.matmul_plain_apply none _ _ _ r j).trans ?_
  refine (congrArg (· + _) Ideal.ofBits_zero_f32).trans ((zero_add _).trans (Finset.sum_congr rfl fun t _ => congrArg (· * _) ?_))
  refine congrArg relu ((Ideal.matmul_plain_apply none _ _ _ r t).trans ?_)
  exact (congrArg (· + _) Ideal.ofBits_zero_f32).trans (zero_add _)

/-- The row of the arrays that row `r` of half `d` of chunk `k` is. -/
def rowOf (k : Fin 4) (d : Fin 2) (r : Fin 256) : Fin 2048 := ⟨512 * k.val + 256 * d.val + r.val, by omega⟩
/-- Every row of the arrays lies in some half of some chunk. -/
theorem rowOf_cut (R : Fin 2048) : ∃ k d r, R = rowOf k d r :=
  ⟨⟨R.val / 512, by omega⟩, ⟨R.val / 256 % 2, by omega⟩, ⟨R.val % 256, by omega⟩, Fin.ext (by show R.val = 512 * (R.val / 512) + 256 * (R.val / 256 % 2) + R.val % 256; omega)⟩

/-- Row `r` of half `d` of chunk `k` is row `rowOf k d r` of the array. -/
theorem r2_emb (k : Fin 4) (d : Fin 2) (r : Fin 256) (u : Fin 2048) : (r2 k d).emb (ix2 r u) = ix2 (rowOf k d r) u := by
  funext a; apply Fin.ext
  match a with
  | ⟨0, _⟩ => show 512 * k.val + 256 * d.val + 1 * r.val = 512 * k.val + 256 * d.val + r.val; omega
  | ⟨1, _⟩ => show 0 + 1 * u.val = u.val; omega

/-- An entry of a block of rows of `x` is the entry of `x` at that row. -/
theorem Xb_apply (c : Dev nD) (k : Fin 4) (d : Fin 2) (r : Fin 256) (u : Fin 2048) :
    Xb m c k d (ix2 r u) = m ((c : Thread nD τ).loc main_arg0) (ix2 (rowOf k d r) u) :=
  congrArg (m ((c : Thread nD τ).loc main_arg0)) (r2_emb k d r u)
/-- An entry of a block of the result is the entry of the result at that row. -/
theorem out_read (c : Dev nD) (g : Buf (Elt Ideal) ((c : Thread nD τ).loc main_v1)) (k : Fin 4) (d : Fin 2) (r : Fin 256) (j : Fin 2048) :
    (outRows k d).view.read (Elt Ideal) g (ix2 r j) = g (ix2 (rowOf k d r) j) :=
  congrArg g (r2_emb k d r j)
/-- What is staged of the first weight is the device's whole second argument. -/
theorem Wa_eq (c : Dev nD) : Wa m c = m ((c : Thread nD τ).loc main_arg1) := by
  unfold Wa
  exact Memref.read_access_unit_zero (Elt Ideal) main_arg1 (funext fun a => by fin_cases a <;> rfl) _ _
/-- What is staged of the second weight is the device's whole third argument. -/
theorem Wb_eq (c : Dev nD) : Wb m c = m ((c : Thread nD τ).loc main_arg2) := by
  unfold Wb
  exact Memref.read_access_unit_zero (Elt Ideal) main_arg2 (funext fun a => by fin_cases a <;> rfl) _ _

/-! ## The whole product -/

/-- The arrays whole. -/
abbrev XAll : Type := FVec Ideal S2048x2048 .f32
/-- The first weight, of all devices together. -/
abbrev W1All : Type := FVec Ideal Cert.ReferenceIdeal.S2048x16384 .bf16
/-- The second weight, of all devices together. -/
abbrev W2All : Type := FVec Ideal Cert.ReferenceIdeal.S16384x2048 .bf16

/-- Column `t` of quarter `q` of the hidden columns. -/
def colOf (q : Fin 4) (t : Fin 4096) : Fin 16384 := ⟨q.val * 4096 + t.val, by omega⟩

/-- What hidden column `t` gives to an entry of the result. -/
def term (X : XAll) (A : W1All) (B : W2All) (R j : Fin 2048) (t : Fin 16384) : EReal :=
  relu (∑ u : Fin 2048, X (ix2 R u) * A (ix2 u t)) * B (ix2 t j)

/-- The hidden columns by quarters. -/
theorem sum_quarters (f : Fin 16384 → EReal) : ∑ t : Fin 16384, f t = ∑ q : Fin 4, ∑ t : Fin 4096, f (colOf q t) := by
  rw [← Equiv.sum_comp (finProdFinEquiv (m := 4) (n := 4096)) f, Fintype.sum_prod_type]
  refine Finset.sum_congr rfl fun q _ => Finset.sum_congr rfl fun t _ => congrArg f (Fin.ext ?_)
  show t.val + 4096 * q.val = q.val * 4096 + t.val
  omega

/-- The reference's result, as its run states it. -/
def whole (X : XAll) (A : W1All) (B : W2All) : FVec Ideal S2048x2048 .bf16 :=
  truncf .bf16 (Host.dotGeneral Cert.ReferenceIdeal.dot_S2048x16384_S16384x2048_S2048x2048_1_0_0_1_n_n none
    (maximumf (Host.dotGeneral Cert.ReferenceIdeal.dot_S2048x2048_S2048x16384_S2048x16384_1_0_0_1_n_n none X (extf .f32 A Cert.ReferenceIdeal.Gen.bitsLt_bf16_f32))
      (broadcastInDim Cert.ReferenceIdeal.S2048x16384 ![] Cert.ReferenceIdeal.Gen.bcast_S_S2048x16384 (constant Cert.ReferenceIdeal.S_ .f32 0x00000000#32)))
    (extf .f32 B Cert.ReferenceIdeal.Gen.bitsLt_bf16_f32)) Cert.ReferenceIdeal.Gen.bitsLt_bf16_f32

/-- An entry of the reference's result is the sum of what all the hidden columns give. -/
theorem whole_apply (X : XAll) (A : W1All) (B : W2All) (R j : Fin 2048) : (whole X A B (ix2 R j) : EReal) = ∑ t : Fin 16384, term X A B R j t := by
  unfold whole
  refine (dotGeneral_plain_apply none _ _ R j).trans (Finset.sum_congr rfl fun t _ => congrArg (· * _) ?_)
  exact congrArg relu (dotGeneral_plain_apply none X _ R t)

/-- A device's partial product sums the columns of its quarter. -/
theorem part_apply (X : XAll) (A : W1All) (B : W2All) (c : Dev nD)
    (hX : m ((c : Thread nD τ).loc main_arg0) = X)
    (hA : m ((c : Thread nD τ).loc main_arg1) = Layout.block ⟨2, ![2048, 4096]⟩ ⟨2, ![2048, 16384]⟩ 1 4 c A)
    (hB : m ((c : Thread nD τ).loc main_arg2) = Layout.block ⟨2, ![4096, 2048]⟩ ⟨2, ![16384, 2048]⟩ 0 4 c B)
    (k : Fin 4) (d : Fin 2) (r : Fin 256) (j : Fin 2048) :
    (part m c k d (ix2 r j) : EReal) = ∑ t : Fin 4096, term X A B (rowOf k d r) j (colOf c t) := by
  have ha (u : Fin 2048) (t : Fin 4096) : Wa m c (ix2 u t) = A (ix2 u (colOf c t)) := by
    rw [Wa_eq, hA]
    refine congrArg A (funext fun a => Fin.ext ?_)
    match a with
    | ⟨0, _⟩ => rfl
    | ⟨1, _⟩ => rfl
  have hb (t : Fin 4096) : Wb m c (ix2 t j) = B (ix2 (colOf c t) j) := by
    rw [Wb_eq, hB]
    refine congrArg B (funext fun a => Fin.ext ?_)
    match a with
    | ⟨0, _⟩ => rfl
    | ⟨1, _⟩ => rfl
  unfold part
  rw [mlp_apply]
  refine Finset.sum_congr rfl fun t _ => ?_
  unfold term
  rw [hb]
  refine congrArg (fun a => relu a * _) (Finset.sum_congr rfl fun u _ => ?_)
  rw [ha, Xb_apply, hX]

variable (X : XAll) (A : W1All) (B : W2All)
  (h : ∀ c : Dev nD, m ((c : Thread nD τ).loc main_arg0) = X
    ∧ m ((c : Thread nD τ).loc main_arg1) = Layout.block ⟨2, ![2048, 4096]⟩ ⟨2, ![2048, 16384]⟩ 1 4 c A
    ∧ m ((c : Thread nD τ).loc main_arg2) = Layout.block ⟨2, ![4096, 2048]⟩ ⟨2, ![16384, 2048]⟩ 0 4 c B)
include h

/-- An entry of the result, its blocks holding the ring's sums. -/
theorem entry_eq (c : Dev nD) (g : FVec Ideal S2048x2048 .bf16) (hg : Pieces m c g) (k : Fin 4) (d : Fin 2) (r : Fin 256) (j : Fin 2048) :
    (g (ix2 (rowOf k d r) j) : EReal) = ∑ t : Fin 16384, term X A B (rowOf k d r) j t := by
  obtain ⟨s, hs⟩ := outChunk_surjective c d k
  have hk : up d (up d (up d ((up d)^[s.val] c))) = k := (piece_chunk d s c).symm.trans hs
  have e : (outRows k d).view.read (Elt Ideal) g = piece m d s c := by rw [← hs]; exact hg (d, s)
  rw [sum_quarters]
  refine (out_read c g k d r j).symm.trans ((congrFun (e.trans (piece_at m d s c)) (ix2 r j)).trans ((red_sum m d _ _).trans ?_))
  refine Finset.sum_congr rfl fun q _ => ?_
  rw [hk]
  exact part_apply m X A B q (h q).1 (h q).2.1 (h q).2.2 k d r j

/-- The result is the whole product. -/
theorem result_eq (c : Dev nD) (g : FVec Ideal S2048x2048 .bf16) (hg : Pieces m c g) : g = whole X A B := by
  funext i
  rw [eq_ix2 i]
  obtain ⟨k, d, r, hR⟩ := rowOf_cut (i 0)
  rw [hR]
  exact (entry_eq m X A B h c g hg k d r (i 1)).trans (whole_apply X A B (rowOf k d r) (i 1)).symm

end Cert.TwoWay

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem

/-- The run, read at the arguments and the counters, at any float values. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h => ⟨fun c => ⟨(h.1 c).1, (h.1 c).2.1, (h.1 c).2.2.1⟩, h.2⟩) (Cert.TwoWay.run_main m ρ)

/-- The printed kernel's body is the ideal one's, and so are the two tables of bodies. -/
theorem bodies_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun x => ?_)
  match l, x with
  | ⟨0, _⟩, (t, s) => rfl
/-- The kernel and its ideal reading have the same table of bodies. -/
theorem tables_eq {F : FTy → Type} [FloatOps F] : Cert.Kernel.defs (F := F) = Cert.KernelIdeal.defs (F := F) :=
  congrArg (Pipeline.defs Cert.KernelIdeal.pcfgs) bodies_eq

/-- The kernel as printed: at the machine's floats. -/
theorem frame_kernel : Cert.quiescent_Kernel := fun m ρ _ => by
  rw [tables_eq]
  exact frame_any (F := Bits) m ρ

/-- The kernel at the ideal numbers. -/
theorem frame_ideal : Cert.quiescent_KernelIdeal := fun m ρ _ => frame_any (F := Ideal) m ρ

/-- The reference: its run; it has no semaphores. -/
theorem frame_reference : Cert.quiescent_ReferenceIdeal := fun m ρ _ =>
  (θ_run Cert.ReferenceIdeal.defs _ _).mono (fun r h => ⟨fun c => (h c).2, sem_eq_zero_of_no_sems rfl r.2⟩) (Cert.ReferenceIdeal.Value.run (F := Ideal) m ρ)

/-- Every device's result is the reference's: the ring's sums are the whole product. -/
theorem same_value : Cert.algebraic_KernelIdeal_ReferenceIdeal := fun m ρ m' ρ' _ hm =>
  ⟨Cert.TwoWay.whole _ _ _,
    (θ_run Cert.KernelIdeal.defs _ _).mono
      (fun _ h c => ⟨Cert.TwoWay.result_eq m _ _ _ hm c _ (h.1 c).2.2.2, (h.1 c).1, (h.1 c).2.1, (h.1 c).2.2.1⟩)
      (Cert.TwoWay.run_main (F := Ideal) m ρ),
    (θ_run Cert.ReferenceIdeal.defs _ _).mono (fun _ h => h 0) (Cert.ReferenceIdeal.Value.run (F := Ideal) m' ρ')⟩

/-- All five claims: the kernel, its ideal reading and the reference run to the end with their arguments unchanged and every
    semaphore at zero; the ideal reading is the kernel's own text, so the claim that it is preserved asks nothing; and the ideal
    reading's result on every device is the reference's. -/
theorem claim : Cert.Claim := ⟨Cert.Kernel.Gen.facts, Cert.KernelIdeal.Gen.facts, Cert.ReferenceIdeal.Gen.facts,
  frame_kernel, frame_ideal, frame_reference, trivial, same_value⟩

end Cert.Proof

end
